-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x6x64x64x128 : Shape := ⟨5, ![1, 6, 64, 64, 128]⟩
abbrev S1x6x128x128x64 : Shape := ⟨5, ![1, 6, 128, 128, 64]⟩
abbrev S128x64x2x2 : Shape := ⟨4, ![128, 64, 2, 2]⟩
abbrev S64 : Shape := ⟨1, ![64]⟩
abbrev S128x64 : Shape := ⟨2, ![128, 64]⟩
abbrev S64x64 : Shape := ⟨2, ![64, 64]⟩
abbrev S_ : Shape := ⟨0, ![]⟩

class Facts : Prop where
  bcast_S_S1x6x64x64x128 : S_.BroadcastsInDim S1x6x64x64x128 (![] : Fin 0 → Fin S1x6x64x64x128.rank)
  reducesTo_S1x6x64x64x128_S_d0_1_2_3_4 : S1x6x64x64x128.ReducesTo [0, 1, 2, 3, 4] S_
  h_S_ : 0 < S_.numel
  bcast_S_S1x6x128x128x64 : S_.BroadcastsInDim S1x6x128x128x64 (![] : Fin 0 → Fin S1x6x128x128x64.rank)
  reducesTo_S1x6x128x128x64_S_d0_1_2_3_4 : S1x6x128x128x64.ReducesTo [0, 1, 2, 3, 4] S_
  bcast_S_S128x64x2x2 : S_.BroadcastsInDim S128x64x2x2 (![] : Fin 0 → Fin S128x64x2x2.rank)
  reducesTo_S128x64x2x2_S_d0_1_2_3 : S128x64x2x2.ReducesTo [0, 1, 2, 3] S_
  slices_S128x64_S64x64_64_0 : S128x64.Slices ![64, 0] S64x64
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg5 : FVec F S128x64 .f32) (main_v13 : IVec S_ 1) (main_v15 : FVec F S64x64 .f32) (main_v16 : FVec F S64x64 .f32) : IVec S_ 1 :=
  let main_v17 : IVec S64x64 1 := cmpf .olt main_v15 main_v16
  let main_c_5 : IVec S_ 1 := constantI S_ 1 1#1
  let main_v18 : IVec S_ 1 := (fun x v => Host.reduce IntOp.andi x v reducesTo_S64x64_S_d0_1 h_S_) main_v17 main_c_5
  let main_v19 : IVec S_ 1 := andi main_v13 main_v18
  let main_v20 : FVec F S128x64 .f32 := Host.absf main_arg5
  let main_cst_6 : FVec F S_ .f32 := constant S_ .f32 0x7F800000#32
  let main_v21 : FVec F S128x64 .f32 := broadcastInDim S128x64 ![] bcast_S_S128x64 main_cst_6
  let main_v22 : IVec S128x64 1 := cmpf .olt main_v20 main_v21
  let main_c_7 : IVec S_ 1 := constantI S_ 1 1#1
  let main_v23 : IVec S_ 1 := (fun x v => Host.reduce IntOp.andi x v reducesTo_S128x64_S_d0_1 h_S_) main_v22 main_c_7
  let main_v24 : IVec S_ 1 := andi main_v19 main_v23
  main_v24

def fn {F : FTy → Type} [FloatOps F] (main_arg0 : FVec F S1x6x64x64x128 .f32) (main_arg1 : FVec F S1x6x128x128x64 .f32) (main_arg2 : FVec F S128x64x2x2 .f32) (main_arg3 : FVec F S64 .f32) (main_arg4 : FVec F S128x64 .f32) (main_arg5 : FVec F S128x64 .f32) (main_arg6 : FVec F S64 .f32) (main_arg7 : FVec F S64x64 .f32) (main_arg8 : FVec F S64x64 .f32) (main_arg9 : FVec F S64 .f32) : IVec S_ 1 :=
  let main_v0 : FVec F S1x6x64x64x128 .f32 := Host.absf main_arg0
  let main_cst : FVec F S_ .f32 := constant S_ .f32 0x7F800000#32
  let main_v1 : FVec F S1x6x64x64x128 .f32 := broadcastInDim S1x6x64x64x128 ![] bcast_S_S1x6x64x64x128 main_cst
  let main_v2 : IVec S1x6x64x64x128 1 := cmpf .olt main_v0 main_v1
  let main_c : IVec S_ 1 := constantI S_ 1 1#1
  let main_v3 : IVec S_ 1 := (fun x v => Host.reduce IntOp.andi x v reducesTo_S1x6x64x64x128_S_d0_1_2_3_4 h_S_) main_v2 main_c
  let main_v4 : FVec F S1x6x128x128x64 .f32 := Host.absf main_arg1
  let main_cst_0 : FVec F S_ .f32 := constant S_ .f32 0x7F800000#32
  let main_v5 : FVec F S1x6x128x128x64 .f32 := broadcastInDim S1x6x128x128x64 ![] bcast_S_S1x6x128x128x64 main_cst_0
  let main_v6 : IVec S1x6x128x128x64 1 := cmpf .olt main_v4 main_v5
  let main_c_1 : IVec S_ 1 := constantI S_ 1 1#1
  let main_v7 : IVec S_ 1 := (fun x v => Host.reduce IntOp.andi x v reducesTo_S1x6x128x128x64_S_d0_1_2_3_4 h_S_) main_v6 main_c_1
  let main_v8 : IVec S_ 1 := andi main_v3 main_v7
  let main_v9 : FVec F S128x64x2x2 .f32 := Host.absf main_arg2
  let main_cst_2 : FVec F S_ .f32 := constant S_ .f32 0x7F800000#32
  let main_v10 : FVec F S128x64x2x2 .f32 := broadcastInDim S128x64x2x2 ![] bcast_S_S128x64x2x2 main_cst_2
  let main_v11 : IVec S128x64x2x2 1 := cmpf .olt main_v9 main_v10
  let main_c_3 : IVec S_ 1 := constantI S_ 1 1#1
  let main_v12 : IVec S_ 1 := (fun x v => Host.reduce IntOp.andi x v reducesTo_S128x64x2x2_S_d0_1_2_3 h_S_) main_v11 main_c_3
  let main_v13 : IVec S_ 1 := andi main_v8 main_v12
  let main_v14 : FVec F S64x64 .f32 := (extractStridedSlice S64x64 ![64, 0] · slices_S128x64_S64x64_64_0) main_arg4
  let main_v15 : FVec F S64x64 .f32 := Host.absf main_v14
  let main_cst_4 : FVec F S_ .f32 := constant S_ .f32 0x7F800000#32
  let main_v16 : FVec F S64x64 .f32 := broadcastInDim S64x64 ![] bcast_S_S64x64 main_cst_4
  fn_part1 (F := F) main_arg5 main_v13 main_v15 main_v16
-- ==== Kernel.lean ====
abbrev S1x6x64x64x128 : Shape := ⟨5, ![1, 6, 64, 64, 128]⟩
abbrev S1x6x128x128x64 : Shape := ⟨5, ![1, 6, 128, 128, 64]⟩
abbrev S128x64x2x2 : Shape := ⟨4, ![128, 64, 2, 2]⟩
abbrev S64 : Shape := ⟨1, ![64]⟩
abbrev S128x64 : Shape := ⟨2, ![128, 64]⟩
abbrev S64x64 : Shape := ⟨2, ![64, 64]⟩
abbrev S6x64x64x128 : Shape := ⟨4, ![6, 64, 64, 128]⟩
abbrev S6x128x128x64 : Shape := ⟨4, ![6, 128, 128, 64]⟩
abbrev S128x64x1x1 : Shape := ⟨4, ![128, 64, 1, 1]⟩
abbrev S128x256 : Shape := ⟨2, ![128, 256]⟩
abbrev S_ : Shape := ⟨0, ![]⟩
abbrev S64x128 : Shape := ⟨2, ![64, 128]⟩
abbrev S128x128 : Shape := ⟨2, ![128, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S3x64x64x128 : Shape := ⟨4, ![3, 64, 64, 128]⟩
abbrev S3x128x128x64 : Shape := ⟨4, ![3, 128, 128, 64]⟩
abbrev S3x128x64x128 : Shape := ⟨4, ![3, 128, 64, 128]⟩
abbrev S1x64x64x128 : Shape := ⟨4, ![1, 64, 64, 128]⟩
abbrev S1x128x64x128 : Shape := ⟨4, ![1, 128, 64, 128]⟩
abbrev S64x64x128 : Shape := ⟨3, ![64, 64, 128]⟩
abbrev S4096x128 : Shape := ⟨2, ![4096, 128]⟩
abbrev S128x64x128 : Shape := ⟨3, ![128, 64, 128]⟩
abbrev S4096x256 : Shape := ⟨2, ![4096, 256]⟩
abbrev S64x1x64x128 : Shape := ⟨4, ![64, 1, 64, 128]⟩
abbrev S64x2x64x128 : Shape := ⟨4, ![64, 2, 64, 128]⟩
abbrev S8192x128 : Shape := ⟨2, ![8192, 128]⟩
abbrev S8192x256 : Shape := ⟨2, ![8192, 256]⟩
abbrev S128x64x256 : Shape := ⟨3, ![128, 64, 256]⟩
abbrev S127x64x128 : Shape := ⟨3, ![127, 64, 128]⟩
abbrev S1x64x128 : Shape := ⟨3, ![1, 64, 128]⟩
abbrev S128x64x64 : Shape := ⟨3, ![128, 64, 64]⟩
abbrev S128x63x128 : Shape := ⟨3, ![128, 63, 128]⟩
abbrev S128x1x128 : Shape := ⟨3, ![128, 1, 128]⟩
abbrev S1x1x128 : Shape := ⟨3, ![1, 1, 128]⟩
abbrev S1x3x128x128x64 : Shape := ⟨5, ![1, 3, 128, 128, 64]⟩

abbrev nBuf : Space → Nat
  | .hbm => 83
  | .vmem => 24
  | .smem => 0
  | _ => 0

abbrev bufTy : (tb : Table) → Fin (tcTables nBuf tb) → BufTy
  | .hbm, ⟨0, _⟩ => ⟨S1x6x64x64x128, .f32⟩
  | .hbm, ⟨1, _⟩ => ⟨S1x6x128x128x64, .f32⟩
  | .hbm, ⟨2, _⟩ => ⟨S128x64x2x2, .f32⟩
  | .hbm, ⟨3, _⟩ => ⟨S64, .f32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S6x64x64x128, .f32⟩
  | .hbm, ⟨11, _⟩ => ⟨S6x128x128x64, .f32⟩
  | .hbm, ⟨12, _⟩ => ⟨S128x64x1x1, .f32⟩
  | .hbm, ⟨13, _⟩ => ⟨S128x64, .f32⟩
  | .hbm, ⟨14, _⟩ => ⟨S128x64x1x1, .f32⟩
  | .hbm, ⟨15, _⟩ => ⟨S128x64, .f32⟩
  | .hbm, ⟨16, _⟩ => ⟨S128x64x1x1, .f32⟩
  | .hbm, ⟨17, _⟩ => ⟨S128x64, .f32⟩
  | .hbm, ⟨18, _⟩ => ⟨S128x64x1x1, .f32⟩
  | .hbm, ⟨19, _⟩ => ⟨S128x64, .f32⟩
  | .hbm, ⟨20, _⟩ => ⟨S128x256, .f32⟩
  | .hbm, ⟨21, _⟩ => ⟨S64x64, .f32⟩
  | .hbm, ⟨22, _⟩ => ⟨S_, .f32⟩
  | .hbm, ⟨23, _⟩ => ⟨S64x64, .f32⟩
  | .hbm, ⟨24, _⟩ => ⟨S64x128, .f32⟩
  | .hbm, ⟨25, _⟩ => ⟨S64x128, .f32⟩
  | .hbm, ⟨26, _⟩ => ⟨S128x128, .f32⟩
  | .hbm, ⟨27, _⟩ => ⟨S64x64, .f32⟩
  | .hbm, ⟨28, _⟩ => ⟨S_, .f32⟩
  | .hbm, ⟨29, _⟩ => ⟨S64x64, .f32⟩
  | .hbm, ⟨30, _⟩ => ⟨S64x128, .f32⟩
  | .hbm, ⟨31, _⟩ => ⟨S64x128, .f32⟩
  | .hbm, ⟨32, _⟩ => ⟨S128x128, .f32⟩
  | .hbm, ⟨33, _⟩ => ⟨S128x256, .f32⟩
  | .hbm, ⟨34, _⟩ => ⟨S64x64, .f32⟩
  | .hbm, ⟨35, _⟩ => ⟨S_, .f32⟩
  | .hbm, ⟨36, _⟩ => ⟨S64x64, .f32⟩
  | .hbm, ⟨37, _⟩ => ⟨S64x128, .f32⟩
  | .hbm, ⟨38, _⟩ => ⟨S64x128, .f32⟩
  | .hbm, ⟨39, _⟩ => ⟨S128x128, .f32⟩
  | .hbm, ⟨40, _⟩ => ⟨S64x64, .f32⟩
  | .hbm, ⟨41, _⟩ => ⟨S_, .f32⟩
  | .hbm, ⟨42, _⟩ => ⟨S64x64, .f32⟩
  | .hbm, ⟨43, _⟩ => ⟨S64x128, .f32⟩
  | .hbm, ⟨44, _⟩ => ⟨S64x128, .f32⟩
  | .hbm, ⟨45, _⟩ => ⟨S128x128, .f32⟩
  | .hbm, ⟨46, _⟩ => ⟨S128x256, .f32⟩
  | .hbm, ⟨47, _⟩ => ⟨S_, .f32⟩
  | .hbm, ⟨48, _⟩ => ⟨S64x64, .f32⟩
  | .hbm, ⟨49, _⟩ => ⟨S64x128, .f32⟩
  | .hbm, ⟨50, _⟩ => ⟨S64x128, .f32⟩
  | .hbm, ⟨51, _⟩ => ⟨S128x128, .f32⟩
  | .hbm, ⟨52, _⟩ => ⟨S_, .f32⟩
  | .hbm, ⟨53, _⟩ => ⟨S64x64, .f32⟩
  | .hbm, ⟨54, _⟩ => ⟨S64x128, .f32⟩
  | .hbm, ⟨55, _⟩ => ⟨S64x128, .f32⟩
  | .hbm, ⟨56, _⟩ => ⟨S128x128, .f32⟩
  | .hbm, ⟨57, _⟩ => ⟨S128x256, .f32⟩
  | .hbm, ⟨58, _⟩ => ⟨S64x64, .f32⟩
  | .hbm, ⟨59, _⟩ => ⟨S64, .f32⟩
  | .hbm, ⟨60, _⟩ => ⟨S64, .f32⟩
  | .hbm, ⟨61, _⟩ => ⟨S64x64, .f32⟩
  | .hbm, ⟨62, _⟩ => ⟨S64, .f32⟩
  | .hbm, ⟨63, _⟩ => ⟨S64, .f32⟩
  | .hbm, ⟨64, _⟩ => ⟨S1x64, .f32⟩
  | .hbm, ⟨65, _⟩ => ⟨S2x64, .f32⟩
  | .hbm, ⟨66, _⟩ => ⟨S128, .f32⟩
  | .hbm, ⟨67, _⟩ => ⟨S1x128, .f32⟩
  | .hbm, ⟨68, _⟩ => ⟨S1x64, .f32⟩
  | .hbm, ⟨69, _⟩ => ⟨S2x64, .f32⟩
  | .hbm, ⟨70, _⟩ => ⟨S128, .f32⟩
  | .hbm, ⟨71, _⟩ => ⟨S1x128, .f32⟩
  | .hbm, ⟨72, _⟩ => ⟨S3x64x64x128, .f32⟩
  | .hbm, ⟨73, _⟩ => ⟨S3x128x128x64, .f32⟩
  | .hbm, ⟨74, _⟩ => ⟨S3x128x64x128, .f32⟩
  | .hbm, ⟨75, _⟩ => ⟨S3x128x64x128, .f32⟩
  | .hbm, ⟨76, _⟩ => ⟨S3x64x64x128, .f32⟩
  | .hbm, ⟨77, _⟩ => ⟨S3x128x128x64, .f32⟩
  | .hbm, ⟨78, _⟩ => ⟨S3x128x64x128, .f32⟩
  | .hbm, ⟨79, _⟩ => ⟨S3x128x64x128, .f32⟩
  | .hbm, ⟨80, _⟩ => ⟨S1x3x128x128x64, .f32⟩
  | .hbm, ⟨81, _⟩ => ⟨S1x3x128x128x64, .f32⟩
  | .hbm, ⟨82, _⟩ => ⟨S1x6x128x128x64, .f32⟩
  | .local _ .vmem, ⟨0, _⟩ => ⟨S1x64x64x128, .f32⟩
  | .local _ .vmem, ⟨1, _⟩ => ⟨S1x64x64x128, .f32⟩
  | .local _ .vmem, ⟨2, _⟩ => ⟨S1x128x64x128, .f32⟩
  | .local _ .vmem, ⟨3, _⟩ => ⟨S1x128x64x128, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S1x128, .f32⟩
  | .local _ .vmem, ⟨8, _⟩ => ⟨S128x256, .f32⟩
  | .local _ .vmem, ⟨9, _⟩ => ⟨S1x128, .f32⟩
  | .local _ .vmem, ⟨10, _⟩ => ⟨S1x128x64x128, .f32⟩
  | .local _ .vmem, ⟨11, _⟩ => ⟨S1x128x64x128, .f32⟩
  | .local _ .vmem, ⟨12, _⟩ => ⟨S1x64x64x128, .f32⟩
  | .local _ .vmem, ⟨13, _⟩ => ⟨S1x64x64x128, .f32⟩
  | .local _ .vmem, ⟨14, _⟩ => ⟨S1x128x64x128, .f32⟩
  | .local _ .vmem, ⟨15, _⟩ => ⟨S1x128x64x128, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S1x128, .f32⟩
  | .local _ .vmem, ⟨20, _⟩ => ⟨S128x256, .f32⟩
  | .local _ .vmem, ⟨21, _⟩ => ⟨S1x128, .f32⟩
  | .local _ .vmem, ⟨22, _⟩ => ⟨S1x128x64x128, .f32⟩
  | .local _ .vmem, ⟨23, _⟩ => ⟨S1x128x64x128, .f32⟩
  | _, _ => ⟨S1x6x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![3], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x128x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![3], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x64x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1x128x64x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S1x6x64x64x128 : Shape := ⟨5, ![1, 6, 64, 64, 128]⟩
abbrev S1x6x128x128x64 : Shape := ⟨5, ![1, 6, 128, 128, 64]⟩
abbrev S128x64x2x2 : Shape := ⟨4, ![128, 64, 2, 2]⟩
abbrev S64 : Shape := ⟨1, ![64]⟩
abbrev S128x64 : Shape := ⟨2, ![128, 64]⟩
abbrev S64x64 : Shape := ⟨2, ![64, 64]⟩
abbrev S6x64x64x128 : Shape := ⟨4, ![6, 64, 64, 128]⟩
abbrev S64x2x2x6x64x64 : Shape := ⟨6, ![64, 2, 2, 6, 64, 64]⟩
abbrev S6x64x2x64x2x64 : Shape := ⟨6, ![6, 64, 2, 64, 2, 64]⟩
abbrev S6x128x128x64 : Shape := ⟨4, ![6, 128, 128, 64]⟩
abbrev S1x1x1x64 : Shape := ⟨4, ![1, 1, 1, 64]⟩
abbrev S1x6x128x128x128 : Shape := ⟨5, ![1, 6, 128, 128, 128]⟩
abbrev S98304 : Shape := ⟨1, ![98304]⟩
abbrev S_ : Shape := ⟨0, ![]⟩
abbrev S393216 : Shape := ⟨1, ![393216]⟩
abbrev S1x98304x128 : Shape := ⟨3, ![1, 98304, 128]⟩
abbrev S98304x1x128 : Shape := ⟨3, ![98304, 1, 128]⟩
abbrev S393216x1 : Shape := ⟨2, ![393216, 1]⟩
abbrev S393216x1x128 : Shape := ⟨3, ![393216, 1, 128]⟩
abbrev S98304x1x64 : Shape := ⟨3, ![98304, 1, 64]⟩
abbrev S1x1x64 : Shape := ⟨3, ![1, 1, 64]⟩
abbrev S393216x1x64 : Shape := ⟨3, ![393216, 1, 64]⟩
abbrev S1x98304x64 : Shape := ⟨3, ![1, 98304, 64]⟩

abbrev nBuf : Space → Nat
  | .hbm => 282
  | .vmem => 0
  | .smem => 0
  | _ => 0

abbrev hbmTy0_0 (i : Nat) : BufTy := match i % 128 with
  | 0 => ⟨S1x6x64x64x128, .f32⟩
  | 1 => ⟨S1x6x128x128x64, .f32⟩
  | 2 => ⟨S128x64x2x2, .f32⟩
  | 3 => ⟨S64, .f32⟩
  | 4 => ⟨S128x64, .f32⟩
  | 5 => ⟨S128x64, .f32⟩
  | 6 => ⟨S64, .f32⟩
  | 7 => ⟨S64x64, .f32⟩
  | 8 => ⟨S64x64, .f32⟩
  | 9 => ⟨S64, .f32⟩
  | 10 => ⟨S6x64x64x128, .f32⟩
  | 11 => ⟨S64x2x2x6x64x64, .f32⟩
  | 12 => ⟨S6x64x2x64x2x64, .f32⟩
  | 13 => ⟨S6x128x128x64, .f32⟩
  | 14 => ⟨S1x1x1x64, .f32⟩
  | 15 => ⟨S6x128x128x64, .f32⟩
  | 16 => ⟨S6x128x128x64, .f32⟩
  | 17 => ⟨S1x6x128x128x64, .f32⟩
  | 18 => ⟨S1x6x128x128x128, .f32⟩
  | 19 => ⟨S98304, .i32⟩
  | 20 => ⟨S_, .i32⟩
  | 21 => ⟨S_, .i32⟩
  | 22 => ⟨S98304, .i32⟩
  | 23 => ⟨S98304, .i32⟩
  | 24 => ⟨S98304, .i32⟩
  | 25 => ⟨S_, .i32⟩
  | 26 => ⟨S98304, .i32⟩
  | 27 => ⟨S98304, .i1⟩
  | 28 => ⟨S98304, .i32⟩
  | 29 => ⟨S98304, .i32⟩
  | 30 => ⟨S_, .i32⟩
  | 31 => ⟨S98304, .i32⟩
  | 32 => ⟨S98304, .i1⟩
  | 33 => ⟨S98304, .i1⟩
  | 34 => ⟨S_, .i32⟩
  | 35 => ⟨S98304, .i32⟩
  | 36 => ⟨S98304, .i32⟩
  | 37 => ⟨S98304, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S98304, .i32⟩
  | 45 => ⟨S98304, .i32⟩
  | 46 => ⟨S_, .i32⟩
  | 47 => ⟨S98304, .i32⟩
  | 48 => ⟨S98304, .i1⟩
  | 49 => ⟨S_, .i32⟩
  | 50 => ⟨S98304, .i32⟩
  | 51 => ⟨S98304, .i1⟩
  | 52 => ⟨S_, .i32⟩
  | 53 => ⟨S_, .i1⟩
  | 54 => ⟨S98304, .i1⟩
  | 55 => ⟨S98304, .i1⟩
  | 56 => ⟨S98304, .i1⟩
  | 57 => ⟨S98304, .i32⟩
  | 58 => ⟨S98304, .i32⟩
  | 59 => ⟨S98304, .i32⟩
  | 60 => ⟨S_, .i32⟩
  | 61 => ⟨S_, .i32⟩
  | 62 => ⟨S98304, .i32⟩
  | 63 => ⟨S98304, .i32⟩
  | 64 => ⟨S98304, .i32⟩
  | 65 => ⟨S_, .i32⟩
  | 66 => ⟨S98304, .i32⟩
  | 67 => ⟨S98304, .i1⟩
  | 68 => ⟨S98304, .i32⟩
  | 69 => ⟨S98304, .i32⟩
  | 70 => ⟨S_, .i32⟩
  | 71 => ⟨S98304, .i32⟩
  | 72 => ⟨S98304, .i1⟩
  | 73 => ⟨S98304, .i1⟩
  | 74 => ⟨S_, .i32⟩
  | 75 => ⟨S98304, .i32⟩
  | 76 => ⟨S98304, .i32⟩
  | 77 => ⟨S98304, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S98304, .i32⟩
  | 85 => ⟨S98304, .i32⟩
  | 86 => ⟨S_, .i32⟩
  | 87 => ⟨S98304, .i32⟩
  | 88 => ⟨S98304, .i1⟩
  | 89 => ⟨S_, .i32⟩
  | 90 => ⟨S98304, .i32⟩
  | 91 => ⟨S98304, .i1⟩
  | 92 => ⟨S_, .i32⟩
  | 93 => ⟨S_, .i1⟩
  | 94 => ⟨S98304, .i1⟩
  | 95 => ⟨S98304, .i1⟩
  | 96 => ⟨S98304, .i1⟩
  | 97 => ⟨S98304, .i32⟩
  | 98 => ⟨S98304, .i32⟩
  | 99 => ⟨S98304, .i32⟩
  | 100 => ⟨S_, .i32⟩
  | 101 => ⟨S98304, .i32⟩
  | 102 => ⟨S98304, .i32⟩
  | 103 => ⟨S_, .i32⟩
  | 104 => ⟨S98304, .i32⟩
  | 105 => ⟨S98304, .i32⟩
  | 106 => ⟨S_, .i32⟩
  | 107 => ⟨S98304, .i32⟩
  | 108 => ⟨S98304, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S98304, .i32⟩
  | 116 => ⟨S98304, .i32⟩
  | 117 => ⟨S_, .i32⟩
  | 118 => ⟨S98304, .i32⟩
  | 119 => ⟨S98304, .i1⟩
  | 120 => ⟨S_, .i32⟩
  | 121 => ⟨S98304, .i32⟩
  | 122 => ⟨S98304, .i1⟩
  | 123 => ⟨S_, .i32⟩
  | 124 => ⟨S_, .i1⟩
  | 125 => ⟨S98304, .i1⟩
  | 126 => ⟨S98304, .i1⟩
  | 127 => ⟨S98304, .i1⟩
  | _ => ⟨S1x6x64x64x128, .f32⟩

abbrev hbmTy0_1 (i : Nat) : BufTy := match i % 128 with
  | 0 => ⟨S98304, .i32⟩
  | 1 => ⟨S98304, .i32⟩
  | 2 => ⟨S98304, .i32⟩
  | 3 => ⟨S_, .i32⟩
  | 4 => ⟨S98304, .i32⟩
  | 5 => ⟨S98304, .i32⟩
  | 6 => ⟨S98304, .i32⟩
  | 7 => ⟨S98304, .i32⟩
  | 8 => ⟨S_, .i32⟩
  | 9 => ⟨S98304, .i32⟩
  | 10 => ⟨S98304, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S98304, .i32⟩
  | 18 => ⟨S98304, .i32⟩
  | 19 => ⟨S_, .i32⟩
  | 20 => ⟨S98304, .i32⟩
  | 21 => ⟨S98304, .i1⟩
  | 22 => ⟨S_, .i32⟩
  | 23 => ⟨S98304, .i32⟩
  | 24 => ⟨S98304, .i1⟩
  | 25 => ⟨S_, .i32⟩
  | 26 => ⟨S_, .i1⟩
  | 27 => ⟨S98304, .i1⟩
  | 28 => ⟨S98304, .i1⟩
  | 29 => ⟨S98304, .i1⟩
  | 30 => ⟨S98304, .i32⟩
  | 31 => ⟨S98304, .i32⟩
  | 32 => ⟨S98304, .i32⟩
  | 33 => ⟨S_, .i32⟩
  | 34 => ⟨S98304, .i32⟩
  | 35 => ⟨S98304, .i32⟩
  | 36 => ⟨S98304, .i32⟩
  | 37 => ⟨S98304, .i32⟩
  | 38 => ⟨S_, .i32⟩
  | 39 => ⟨S98304, .i32⟩
  | 40 => ⟨S98304, .i32⟩
  | 41 => ⟨S98304, .i32⟩
  | 42 => ⟨S_, .i32⟩
  | 43 => ⟨S98304, .i32⟩
  | 44 => ⟨S98304, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S98304, .i32⟩
  | 52 => ⟨S98304, .i32⟩
  | 53 => ⟨S_, .i32⟩
  | 54 => ⟨S98304, .i32⟩
  | 55 => ⟨S98304, .i1⟩
  | 56 => ⟨S_, .i32⟩
  | 57 => ⟨S98304, .i32⟩
  | 58 => ⟨S98304, .i1⟩
  | 59 => ⟨S_, .i32⟩
  | 60 => ⟨S_, .i1⟩
  | 61 => ⟨S98304, .i1⟩
  | 62 => ⟨S98304, .i1⟩
  | 63 => ⟨S98304, .i1⟩
  | 64 => ⟨S98304, .i32⟩
  | 65 => ⟨S98304, .i32⟩
  | 66 => ⟨S98304, .i32⟩
  | 67 => ⟨S98304, .i32⟩
  | 68 => ⟨S_, .i32⟩
  | 69 => ⟨S98304, .i32⟩
  | 70 => ⟨S98304, .i32⟩
  | 71 => ⟨S98304, .i32⟩
  | 72 => ⟨S_, .i32⟩
  | 73 => ⟨S98304, .i32⟩
  | 74 => ⟨S98304, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S98304, .i32⟩
  | 82 => ⟨S98304, .i32⟩
  | 83 => ⟨S_, .i32⟩
  | 84 => ⟨S98304, .i32⟩
  | 85 => ⟨S98304, .i1⟩
  | 86 => ⟨S_, .i32⟩
  | 87 => ⟨S98304, .i32⟩
  | 88 => ⟨S98304, .i1⟩
  | 89 => ⟨S_, .i32⟩
  | 90 => ⟨S_, .i1⟩
  | 91 => ⟨S98304, .i1⟩
  | 92 => ⟨S98304, .i1⟩
  | 93 => ⟨S98304, .i1⟩
  | 94 => ⟨S98304, .i32⟩
  | 95 => ⟨S98304, .i32⟩
  | 96 => ⟨S98304, .i32⟩
  | 97 => ⟨S98304, .i32⟩
  | 98 => ⟨S393216, .i32⟩
  | 99 => ⟨S393216, .i32⟩
  | 100 => ⟨S1x98304x128, .f32⟩
  | 101 => ⟨S98304x1x128, .f32⟩
  | 102 => ⟨S_, .i32⟩
  | 103 => ⟨S393216, .i32⟩
  | 104 => ⟨S393216, .i1⟩
  | 105 => ⟨S_, .i32⟩
  | 106 => ⟨S393216, .i32⟩
  | 107 => ⟨S393216, .i32⟩
  | 108 => ⟨S393216, .i32⟩
  | 109 => ⟨S393216x1, .i32⟩
  | 110 => ⟨S393216x1x128, .f32⟩
  | 111 => ⟨S_, .f32⟩
  | 112 => ⟨S98304x1x128, .f32⟩
  | 113 => ⟨S393216x1, .i32⟩
  | 114 => ⟨S98304x1x128, .f32⟩
  | 115 => ⟨S_, .f32⟩
  | 116 => ⟨S98304x1x128, .f32⟩
  | 117 => ⟨S98304x1x128, .f32⟩
  | 118 => ⟨S98304x1x64, .f32⟩
  | 119 => ⟨S98304x1x64, .f32⟩
  | 120 => ⟨S98304x1x64, .f32⟩
  | 121 => ⟨S1x1x64, .f32⟩
  | 122 => ⟨S98304x1x64, .f32⟩
  | 123 => ⟨S98304x1x64, .f32⟩
  | 124 => ⟨S_, .f32⟩
  | 125 => ⟨S98304x1x64, .f32⟩
  | 126 => ⟨S98304x1x64, .f32⟩
  | 127 => ⟨S_, .i32⟩
  | _ => ⟨S1x6x64x64x128, .f32⟩

abbrev hbmTy0_2 (i : Nat) : BufTy := match i % 128 with
  | 0 => ⟨S393216, .i32⟩
  | 1 => ⟨S393216, .i1⟩
  | 2 => ⟨S_, .i32⟩
  | 3 => ⟨S393216, .i32⟩
  | 4 => ⟨S393216, .i32⟩
  | 5 => ⟨S393216, .i32⟩
  | 6 => ⟨S393216x1, .i32⟩
  | 7 => ⟨S393216x1x64, .f32⟩
  | 8 => ⟨S_, .f32⟩
  | 9 => ⟨S98304x1x64, .f32⟩
  | 10 => ⟨S393216x1, .i32⟩
  | 11 => ⟨S98304x1x64, .f32⟩
  | 12 => ⟨S_, .f32⟩
  | 13 => ⟨S98304x1x64, .f32⟩
  | 14 => ⟨S98304x1x64, .f32⟩
  | 15 => ⟨S98304x1x64, .f32⟩
  | 16 => ⟨S98304x1x64, .f32⟩
  | 17 => ⟨S98304x1x64, .f32⟩
  | 18 => ⟨S1x1x64, .f32⟩
  | 19 => ⟨S98304x1x64, .f32⟩
  | 20 => ⟨S98304x1x64, .f32⟩
  | 21 => ⟨S_, .f32⟩
  | 22 => ⟨S98304x1x64, .f32⟩
  | 23 => ⟨S98304x1x64, .f32⟩
  | 24 => ⟨S1x98304x64, .f32⟩
  | 25 => ⟨S1x6x128x128x64, .f32⟩
  | _ => ⟨S1x6x64x64x128, .f32⟩

abbrev hbmTy (i : Nat) : BufTy := match i / 128 with
  | 0 => hbmTy0_0 i
  | 1 => hbmTy0_1 i
  | 2 => hbmTy0_2 i
  | _ => ⟨S1x6x64x64x128, .f32⟩

abbrev bufTy : (tb : Table) → Fin (tcTables nBuf tb) → BufTy
  | .hbm, ⟨i, _⟩ => hbmTy i
  | _, _ => ⟨S1x6x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v10 : Ref sig .tc := ⟨.hbm, 37, rfl⟩
abbrev main_c_0 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v11 : Ref sig .tc := ⟨.hbm, 59, rfl⟩
abbrev main_c_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_c : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_0 : Ref sig .tc := ⟨.hbm, 74, rfl⟩
abbrev main_call2_v12 : Ref sig .tc := ⟨.hbm, 75, rfl⟩
abbrev main_call2_v13 : Ref sig .tc := ⟨.hbm, 76, rfl⟩
abbrev main_v12 : Ref sig .tc := ⟨.hbm, 77, rfl⟩
abbrev main_c_2 : Ref sig .tc := ⟨.hbm, 78, rfl⟩
abbrev main_call3_v0 : Ref sig .tc := ⟨.hbm, 79, rfl⟩
abbrev main_call3_c : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_c_1 : Ref sig .tc := ⟨.hbm, 86, rfl⟩
abbrev main_call3_v5 : Ref sig .tc := ⟨.hbm, 87, rfl⟩
abbrev main_call3_v6 : Ref sig .tc := ⟨.hbm, 88, rfl⟩
abbrev main_call3_c_2 : Ref sig .tc := ⟨.hbm, 89, rfl⟩
abbrev main_call3_v7 : Ref sig .tc := ⟨.hbm, 90, rfl⟩
abbrev main_call3_v8 : Ref sig .tc := ⟨.hbm, 91, rfl⟩
abbrev main_call3_c_3 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_v12 : Ref sig .tc := ⟨.hbm, 96, rfl⟩
abbrev main_call3_v13 : Ref sig .tc := ⟨.hbm, 97, rfl⟩
abbrev main_call3_v14 : Ref sig .tc := ⟨.hbm, 98, rfl⟩
abbrev main_v13 : Ref sig .tc := ⟨.hbm, 99, rfl⟩
abbrev main_c_3 : Ref sig .tc := ⟨.hbm, 100, rfl⟩
abbrev main_v14 : Ref sig .tc := ⟨.hbm, 101, rfl⟩
abbrev main_v15 : Ref sig .tc := ⟨.hbm, 102, rfl⟩
abbrev main_c_4 : Ref sig .tc := ⟨.hbm, 103, rfl⟩
abbrev main_v16 : Ref sig .tc := ⟨.hbm, 104, rfl⟩
abbrev main_v17 : Ref sig .tc := ⟨.hbm, 105, rfl⟩
abbrev main_c_5 : Ref sig .tc := ⟨.hbm, 106, rfl⟩
abbrev main_v18 : Ref sig .tc := ⟨.hbm, 107, rfl⟩
abbrev main_v19 : Ref sig .tc := ⟨.hbm, 108, rfl⟩
abbrev main_c_6 : Ref sig .tc := ⟨.hbm, 109, rfl⟩
abbrev main_call4_v0 : Ref sig .tc := ⟨.hbm, 110, rfl⟩
abbrev main_call4_c : Ref sig .tc := ⟨.hbm, 111, rfl⟩
abbrev main_call4_v1 : Ref sig .tc := ⟨.hbm, 112, rfl⟩
abbrev main_call4_c_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_c_1 : Ref sig .tc := ⟨.hbm, 117, rfl⟩
abbrev main_call4_v5 : Ref sig .tc := ⟨.hbm, 118, rfl⟩
abbrev main_call4_v6 : Ref sig .tc := ⟨.hbm, 119, rfl⟩
abbrev main_call4_c_2 : Ref sig .tc := ⟨.hbm, 120, rfl⟩
abbrev main_call4_v7 : Ref sig .tc := ⟨.hbm, 121, rfl⟩
abbrev main_call4_v8 : Ref sig .tc := ⟨.hbm, 122, rfl⟩
abbrev main_call4_c_3 : Ref sig .tc := ⟨.hbm, 123, rfl⟩
abbrev main_call4_v9 : Ref sig .tc := ⟨.hbm, 124, rfl⟩
abbrev main_call4_v10 : Ref sig .tc := ⟨.hbm, 125, rfl⟩
abbrev main_call4_v11 : Ref sig .tc := ⟨.hbm, 126, rfl⟩
abbrev main_call4_v12 : Ref sig .tc := ⟨.hbm, 127, rfl⟩
abbrev main_call4_v13 : Ref sig .tc := ⟨.hbm, 128, rfl⟩
abbrev main_call4_v14 : Ref sig .tc := ⟨.hbm, 129, rfl⟩
abbrev main_v20 : Ref sig .tc := ⟨.hbm, 130, rfl⟩
abbrev main_c_7 : Ref sig .tc := ⟨.hbm, 131, rfl⟩
abbrev main_v21 : Ref sig .tc := ⟨.hbm, 132, rfl⟩
abbrev main_v22 : Ref sig .tc := ⟨.hbm, 133, rfl⟩
abbrev main_v23 : Ref sig .tc := ⟨.hbm, 134, rfl⟩
abbrev main_v24 : Ref sig .tc := ⟨.hbm, 135, rfl⟩
abbrev main_c_8 : Ref sig .tc := ⟨.hbm, 136, rfl⟩
abbrev main_v25 : Ref sig .tc := ⟨.hbm, 137, rfl⟩
abbrev main_v26 : Ref sig .tc := ⟨.hbm, 138, rfl⟩
abbrev main_c_9 : Ref sig .tc := ⟨.hbm, 139, rfl⟩
abbrev main_call5_v0 : Ref sig .tc := ⟨.hbm, 140, rfl⟩
abbrev main_call5_c : Ref sig .tc := ⟨.hbm, 141, rfl⟩
abbrev main_call5_v1 : Ref sig .tc := ⟨.hbm, 142, rfl⟩
abbrev main_call5_c_0 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_call5_c_1 : Ref sig .tc := ⟨.hbm, 147, rfl⟩
abbrev main_call5_v5 : Ref sig .tc := ⟨.hbm, 148, rfl⟩
abbrev main_call5_v6 : Ref sig .tc := ⟨.hbm, 149, rfl⟩
abbrev main_call5_c_2 : Ref sig .tc := ⟨.hbm, 150, rfl⟩
abbrev main_call5_v7 : Ref sig .tc := ⟨.hbm, 151, rfl⟩
abbrev main_call5_v8 : Ref sig .tc := ⟨.hbm, 152, rfl⟩
abbrev main_call5_c_3 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_v12 : Ref sig .tc := ⟨.hbm, 157, rfl⟩
abbrev main_call5_v13 : Ref sig .tc := ⟨.hbm, 158, rfl⟩
abbrev main_call5_v14 : Ref sig .tc := ⟨.hbm, 159, rfl⟩
abbrev main_v27 : Ref sig .tc := ⟨.hbm, 160, rfl⟩
abbrev main_c_10 : Ref sig .tc := ⟨.hbm, 161, rfl⟩
abbrev main_v28 : Ref sig .tc := ⟨.hbm, 162, rfl⟩
abbrev main_v29 : Ref sig .tc := ⟨.hbm, 163, rfl⟩
abbrev main_v30 : Ref sig .tc := ⟨.hbm, 164, rfl⟩
abbrev main_v31 : Ref sig .tc := ⟨.hbm, 165, rfl⟩
abbrev main_c_11 : Ref sig .tc := ⟨.hbm, 166, rfl⟩
abbrev main_v32 : Ref sig .tc := ⟨.hbm, 167, rfl⟩
abbrev main_v33 : Ref sig .tc := ⟨.hbm, 168, rfl⟩
abbrev main_v34 : Ref sig .tc := ⟨.hbm, 169, rfl⟩
abbrev main_c_12 : Ref sig .tc := ⟨.hbm, 170, rfl⟩
abbrev main_v35 : Ref sig .tc := ⟨.hbm, 171, rfl⟩
abbrev main_v36 : Ref sig .tc := ⟨.hbm, 172, rfl⟩
abbrev main_c_13 : Ref sig .tc := ⟨.hbm, 173, rfl⟩
abbrev main_call6_v0 : Ref sig .tc := ⟨.hbm, 174, rfl⟩
abbrev main_call6_c : Ref sig .tc := ⟨.hbm, 175, rfl⟩
abbrev main_call6_v1 : Ref sig .tc := ⟨.hbm, 176, rfl⟩
abbrev main_call6_c_0 : Ref sig .tc := ⟨.hbm, 177, rfl⟩
abbrev main_call6_v2 : Ref sig .tc := ⟨.hbm, 178, rfl⟩
abbrev main_call6_v3 : Ref sig .tc := ⟨.hbm, 179, rfl⟩
abbrev main_call6_v4 : Ref sig .tc := ⟨.hbm, 180, rfl⟩
abbrev main_call6_c_1 : Ref sig .tc := ⟨.hbm, 181, rfl⟩
abbrev main_call6_v5 : Ref sig .tc := ⟨.hbm, 182, rfl⟩
abbrev main_call6_v6 : Ref sig .tc := ⟨.hbm, 183, rfl⟩
abbrev main_call6_c_2 : Ref sig .tc := ⟨.hbm, 184, rfl⟩
abbrev main_call6_v7 : Ref sig .tc := ⟨.hbm, 185, rfl⟩
abbrev main_call6_v8 : Ref sig .tc := ⟨.hbm, 186, rfl⟩
abbrev main_call6_c_3 : Ref sig .tc := ⟨.hbm, 187, rfl⟩
abbrev main_call6_v9 : Ref sig .tc := ⟨.hbm, 188, rfl⟩
abbrev main_call6_v10 : Ref sig .tc := ⟨.hbm, 189, rfl⟩
abbrev main_call6_v11 : Ref sig .tc := ⟨.hbm, 190, rfl⟩
abbrev main_call6_v12 : Ref sig .tc := ⟨.hbm, 191, rfl⟩
abbrev main_call6_v13 : Ref sig .tc := ⟨.hbm, 192, rfl⟩
abbrev main_call6_v14 : Ref sig .tc := ⟨.hbm, 193, rfl⟩
abbrev main_v37 : Ref sig .tc := ⟨.hbm, 194, rfl⟩
abbrev main_v38 : Ref sig .tc := ⟨.hbm, 195, rfl⟩
abbrev main_c_14 : Ref sig .tc := ⟨.hbm, 196, rfl⟩
abbrev main_v39 : Ref sig .tc := ⟨.hbm, 197, rfl⟩
abbrev main_v40 : Ref sig .tc := ⟨.hbm, 198, rfl⟩
abbrev main_v41 : Ref sig .tc := ⟨.hbm, 199, rfl⟩
abbrev main_c_15 : Ref sig .tc := ⟨.hbm, 200, rfl⟩
abbrev main_v42 : Ref sig .tc := ⟨.hbm, 201, rfl⟩
abbrev main_v43 : Ref sig .tc := ⟨.hbm, 202, rfl⟩
abbrev main_c_16 : Ref sig .tc := ⟨.hbm, 203, rfl⟩
abbrev main_call7_v0 : Ref sig .tc := ⟨.hbm, 204, rfl⟩
abbrev main_call7_c : Ref sig .tc := ⟨.hbm, 205, rfl⟩
abbrev main_call7_v1 : Ref sig .tc := ⟨.hbm, 206, rfl⟩
abbrev main_call7_c_0 : Ref sig .tc := ⟨.hbm, 207, rfl⟩
abbrev main_call7_v2 : Ref sig .tc := ⟨.hbm, 208, rfl⟩
abbrev main_call7_v3 : Ref sig .tc := ⟨.hbm, 209, rfl⟩
abbrev main_call7_v4 : Ref sig .tc := ⟨.hbm, 210, rfl⟩
abbrev main_call7_c_1 : Ref sig .tc := ⟨.hbm, 211, rfl⟩
abbrev main_call7_v5 : Ref sig .tc := ⟨.hbm, 212, rfl⟩
abbrev main_call7_v6 : Ref sig .tc := ⟨.hbm, 213, rfl⟩
abbrev main_call7_c_2 : Ref sig .tc := ⟨.hbm, 214, rfl⟩
abbrev main_call7_v7 : Ref sig .tc := ⟨.hbm, 215, rfl⟩
abbrev main_call7_v8 : Ref sig .tc := ⟨.hbm, 216, rfl⟩
abbrev main_call7_c_3 : Ref sig .tc := ⟨.hbm, 217, rfl⟩
abbrev main_call7_v9 : Ref sig .tc := ⟨.hbm, 218, rfl⟩
abbrev main_call7_v10 : Ref sig .tc := ⟨.hbm, 219, rfl⟩
abbrev main_call7_v11 : Ref sig .tc := ⟨.hbm, 220, rfl⟩
abbrev main_call7_v12 : Ref sig .tc := ⟨.hbm, 221, rfl⟩
abbrev main_call7_v13 : Ref sig .tc := ⟨.hbm, 222, rfl⟩
abbrev main_call7_v14 : Ref sig .tc := ⟨.hbm, 223, rfl⟩
abbrev main_v44 : Ref sig .tc := ⟨.hbm, 224, rfl⟩
abbrev main_v45 : Ref sig .tc := ⟨.hbm, 225, rfl⟩
abbrev main_v46 : Ref sig .tc := ⟨.hbm, 226, rfl⟩
abbrev main_v47 : Ref sig .tc := ⟨.hbm, 227, rfl⟩
abbrev main_v48 : Ref sig .tc := ⟨.hbm, 228, rfl⟩
abbrev main_v49 : Ref sig .tc := ⟨.hbm, 229, rfl⟩
abbrev main_c_17 : Ref sig .tc := ⟨.hbm, 230, rfl⟩
abbrev main_v50 : Ref sig .tc := ⟨.hbm, 231, rfl⟩
abbrev main_v51 : Ref sig .tc := ⟨.hbm, 232, rfl⟩
abbrev main_c_18 : Ref sig .tc := ⟨.hbm, 233, rfl⟩
abbrev main_v52 : Ref sig .tc := ⟨.hbm, 234, rfl⟩
abbrev main_v53 : Ref sig .tc := ⟨.hbm, 235, rfl⟩
abbrev main_v54 : Ref sig .tc := ⟨.hbm, 236, rfl⟩
abbrev main_v55 : Ref sig .tc := ⟨.hbm, 237, rfl⟩
abbrev main_v56 : Ref sig .tc := ⟨.hbm, 238, rfl⟩
abbrev main_cst : Ref sig .tc := ⟨.hbm, 239, rfl⟩
abbrev main_v57 : Ref sig .tc := ⟨.hbm, 240, rfl⟩
abbrev main_v58 : Ref sig .tc := ⟨.hbm, 241, rfl⟩
abbrev main_v59 : Ref sig .tc := ⟨.hbm, 242, rfl⟩
abbrev main_cst_19 : Ref sig .tc := ⟨.hbm, 243, rfl⟩
abbrev main_v60 : Ref sig .tc := ⟨.hbm, 244, rfl⟩
abbrev main_v61 : Ref sig .tc := ⟨.hbm, 245, rfl⟩
abbrev main_v62 : Ref sig .tc := ⟨.hbm, 246, rfl⟩
abbrev main_v63 : Ref sig .tc := ⟨.hbm, 247, rfl⟩
abbrev main_v64 : Ref sig .tc := ⟨.hbm, 248, rfl⟩
abbrev main_v65 : Ref sig .tc := ⟨.hbm, 249, rfl⟩
abbrev main_v66 : Ref sig .tc := ⟨.hbm, 250, rfl⟩
abbrev main_v67 : Ref sig .tc := ⟨.hbm, 251, rfl⟩
abbrev main_call8_cst : Ref sig .tc := ⟨.hbm, 252, rfl⟩
abbrev main_call8_v0 : Ref sig .tc := ⟨.hbm, 253, rfl⟩
abbrev main_v68 : Ref sig .tc := ⟨.hbm, 254, rfl⟩
abbrev main_c_20 : Ref sig .tc := ⟨.hbm, 255, rfl⟩
abbrev main_v69 : Ref sig .tc := ⟨.hbm, 256, rfl⟩
abbrev main_v70 : Ref sig .tc := ⟨.hbm, 257, rfl⟩
abbrev main_c_21 : Ref sig .tc := ⟨.hbm, 258, rfl⟩
abbrev main_v71 : Ref sig .tc := ⟨.hbm, 259, rfl⟩
abbrev main_v72 : Ref sig .tc := ⟨.hbm, 260, rfl⟩
abbrev main_v73 : Ref sig .tc := ⟨.hbm, 261, rfl⟩
abbrev main_v74 : Ref sig .tc := ⟨.hbm, 262, rfl⟩
abbrev main_v75 : Ref sig .tc := ⟨.hbm, 263, rfl⟩
abbrev main_cst_22 : Ref sig .tc := ⟨.hbm, 264, rfl⟩
abbrev main_v76 : Ref sig .tc := ⟨.hbm, 265, rfl⟩
abbrev main_v77 : Ref sig .tc := ⟨.hbm, 266, rfl⟩
abbrev main_v78 : Ref sig .tc := ⟨.hbm, 267, rfl⟩
abbrev main_cst_23 : Ref sig .tc := ⟨.hbm, 268, rfl⟩
abbrev main_v79 : Ref sig .tc := ⟨.hbm, 269, rfl⟩
abbrev main_v80 : Ref sig .tc := ⟨.hbm, 270, rfl⟩
abbrev main_v81 : Ref sig .tc := ⟨.hbm, 271, rfl⟩
abbrev main_v82 : Ref sig .tc := ⟨.hbm, 272, rfl⟩
abbrev main_v83 : Ref sig .tc := ⟨.hbm, 273, rfl⟩
abbrev main_v84 : Ref sig .tc := ⟨.hbm, 274, rfl⟩
abbrev main_v85 : Ref sig .tc := ⟨.hbm, 275, rfl⟩
abbrev main_v86 : Ref sig .tc := ⟨.hbm, 276, rfl⟩
abbrev main_call9_cst : Ref sig .tc := ⟨.hbm, 277, rfl⟩
abbrev main_call9_v0 : Ref sig .tc := ⟨.hbm, 278, rfl⟩
abbrev main_v87 : Ref sig .tc := ⟨.hbm, 279, rfl⟩
abbrev main_v88 : Ref sig .tc := ⟨.hbm, 280, rfl⟩
abbrev main_v89 : Ref sig .tc := ⟨.hbm, 281, rfl⟩

abbrev nD : Nat := 1
abbrev τ : Topo := Topo.v7x

variable {F : FTy → Type} [FloatOps F]
-- ==== Proof.Spec.lean ====
/- The two closed forms the proof compares: what the reference computes at one node and channel, and what one tile of
   the kernel computes there, both as functions of plain coordinates; and the equation between them.

   A node is `(i, j)` on the 128 × 128 grid of one tile, a channel is `o < 64`. The grid is periodic: `nxt` and `prv` are
   the neighbours along an axis. -/
module

public import Idealize.ShloMosaic.PureOps.Ideal
public import Idealize.ShloMosaic.PureOps.Ideal.Laws
public import Mathlib.Data.EReal.Operations
public import Mathlib.Tactic.Abel
public import Mathlib.Tactic.Ring
public import Mathlib.Tactic.NormNum

@[expose] public section

noncomputable section

namespace Cert.Sage

open Idealize.ShloMosaic
open scoped BigOperators

/-! ## Coordinates -/

/-- The next row or column of the periodic grid. -/
def nxt (i : Fin 128) : Fin 128 := ⟨(i.val + 1) % 128, Nat.mod_lt _ (by decide)⟩
/-- The previous row or column of the periodic grid. -/
def prv (i : Fin 128) : Fin 128 := ⟨(i.val + 127) % 128, Nat.mod_lt _ (by decide)⟩
/-- The coarse row or column a fine one lies in. -/
def half (i : Fin 128) : Fin 64 := ⟨i.val / 2, by omega⟩
/-- Which of the two positions inside the coarse one. -/
def par (i : Fin 128) : Fin 2 := ⟨i.val % 2, by omega⟩
/-- Channel `k` of the first 64 of 128. -/
def lo (k : Fin 64) : Fin 128 := ⟨k.val, by omega⟩
/-- Channel `k` of the last 64 of 128. -/
def hi (k : Fin 64) : Fin 128 := ⟨64 + k.val, by omega⟩

/-- A grid of node features: row, column, channel. -/
abbrev Grid (C : ℕ) := Fin 128 → Fin 128 → Fin C → EReal

/-! ## The reference at one node -/

/-- One graph convolution and its rectifier: own features through `Ws`, the mean of the four neighbours through `Wn`. -/
def layer {C : ℕ} (h : Grid C) (Ws Wn : Fin C → Fin 64 → EReal) (b : Fin 64 → EReal) : Grid 64 := fun i j o =>
  max (((∑ k, h i j k * Ws k o)
      + (∑ k, Ideal.div (((h (nxt i) j k + h (prv i) j k) + h i (nxt j) k) + h i (prv j) k) ((4 : ℝ) : EReal) * Wn k o)) + b o) 0

/-- The 2 × 2 transpose convolution with stride 2, without its bias. -/
def upv (x1 : Fin 64 → Fin 64 → Fin 128 → EReal) (W : Fin 128 → Fin 64 → Fin 2 → Fin 2 → EReal) : Grid 64 := fun i j k =>
  ∑ c, x1 (half i) (half j) c * W c k (par i) (par j)

/-- The skip connection's features followed by the upsampled ones. -/
def cat (x2 u : Grid 64) (bup : Fin 64 → EReal) : Grid 128 := fun i j k =>
  if h : k.val < 64 then x2 i j ⟨k.val, h⟩ else u i j ⟨k.val - 64, by omega⟩ + bup ⟨k.val - 64, by omega⟩

/-- The whole reference on one tile. -/
def refTile (x1 : Fin 64 → Fin 64 → Fin 128 → EReal) (x2 : Grid 64) (W : Fin 128 → Fin 64 → Fin 2 → Fin 2 → EReal)
    (bup : Fin 64 → EReal) (Ws1 Wn1 : Fin 128 → Fin 64 → EReal) (b1 : Fin 64 → EReal) (Ws2 Wn2 : Fin 64 → Fin 64 → EReal)
    (b2 : Fin 64 → EReal) : Grid 64 :=
  layer (layer (cat x2 (upv x1 W) bup) Ws1 Wn1 b1) Ws2 Wn2 b2

/-! ## The kernel at one node -/

/-- The sum over the four neighbours, in the kernel's order. -/
def stn (v : Fin 128 → Fin 128 → EReal) (i j : Fin 128) : EReal := (v (nxt i) j + v (prv i) j) + (v i (nxt j) + v i (prv j))

/-- The kernel's layer after its matrix products: own product, a quarter of the neighbours' products, the bias. -/
def mix (s n : Grid 64) (b : Fin 64 → EReal) : Grid 64 := fun i j o =>
  max ((s i j o + stn (fun i j => n i j o) i j * ((1 / 4 : ℝ) : EReal)) + b o) 0

/-- The first layer's product: skip features through the first 64 rows of `W`, upsampled ones through the last 64. -/
def prod1 (x2 u : Grid 64) (W : Fin 128 → Fin 64 → EReal) : Grid 64 := fun i j o =>
  (∑ k, x2 i j k * W (lo k) o) + ∑ k, u i j k * W (hi k) o
/-- The second layer's product. -/
def prod2 (h : Grid 64) (W : Fin 64 → Fin 64 → EReal) : Grid 64 := fun i j o => ∑ k, h i j k * W k o
/-- The first layer's bias with the upsampling bias folded in. -/
def bias1 (bup : Fin 64 → EReal) (Ws Wn : Fin 128 → Fin 64 → EReal) (b : Fin 64 → EReal) : Fin 64 → EReal := fun o =>
  (b o + ∑ k, bup k * Ws (hi k) o) + ∑ k, bup k * Wn (hi k) o

/-- The whole kernel on one tile. -/
def kerTile (x1 : Fin 64 → Fin 64 → Fin 128 → EReal) (x2 : Grid 64) (W : Fin 128 → Fin 64 → Fin 2 → Fin 2 → EReal)
    (bup : Fin 64 → EReal) (Ws1 Wn1 : Fin 128 → Fin 64 → EReal) (b1 : Fin 64 → EReal) (Ws2 Wn2 : Fin 64 → Fin 64 → EReal)
    (b2 : Fin 64 → EReal) : Grid 64 :=
  let h := mix (prod1 x2 (upv x1 W) Ws1) (prod1 x2 (upv x1 W) Wn1) (bias1 bup Ws1 Wn1 b1)
  mix (prod2 h Ws2) (prod2 h Wn2) b2

/-! ## Sums of extended reals -/

/-- A finite sum of reals, read as an extended real. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A sum over 128 channels is the sum over the first 64 plus the sum over the last 64. -/
theorem sum_split {M : Type} [AddCommMonoid M] (f : Fin 128 → M) : ∑ k, f k = (∑ k, f (lo k)) + ∑ k, f (hi k) := by
  have h := Fin.sum_univ_add (a := 64) (b := 64) f
  refine h.trans ?_
  congr 1

/-- A nonnegative real factor goes through a finite sum of extended reals. -/
theorem sum_mul_coe {ι : Type} (s : Finset ι) (f : ι → EReal) {q : ℝ} (hq : 0 ≤ q) :
    (∑ k ∈ s, f k) * (q : EReal) = ∑ k ∈ s, f k * (q : EReal) := by
  classical
  induction s using Finset.induction_on with
  | empty => simp
  | insert a s ha ih =>
    rw [Finset.sum_insert ha, Finset.sum_insert ha, ← ih, mul_comm, mul_comm (f a), mul_comm (∑ k ∈ s, f k)]
    exact EReal.left_distrib_of_nonneg_of_ne_top (by exact_mod_cast hq) (EReal.coe_ne_top q) _ _

/-! ## The second layer: features are not negative -/

/-- The rectifier's result is not negative. -/
theorem mix_nonneg (s n : Grid 64) (b : Fin 64 → EReal) (i j : Fin 128) (o : Fin 64) : 0 ≤ mix s n b i j o := le_max_right _ _

/-- On features that are not negative, with any weights, averaging the neighbours before the product is averaging after it. -/
theorem layer_eq_mix (h : Grid 64) (hh : ∀ i j k, 0 ≤ h i j k) (Ws Wn : Fin 64 → Fin 64 → EReal) (b : Fin 64 → EReal) :
    layer h Ws Wn b = mix (prod2 h Ws) (prod2 h Wn) b := by
  funext i j o
  unfold layer mix
  have key : (∑ k, Ideal.div (((h (nxt i) j k + h (prv i) j k) + h i (nxt j) k) + h i (prv j) k) ((4 : ℝ) : EReal) * Wn k o)
      = stn (fun i j => prod2 h Wn i j o) i j * ((1 / 4 : ℝ) : EReal) := by
    unfold stn prod2
    rw [← Finset.sum_add_distrib, ← Finset.sum_add_distrib, ← Finset.sum_add_distrib, sum_mul_coe _ _ (by norm_num)]
    refine Finset.sum_congr rfl fun k _ => ?_
    rw [Ideal.div_coe (by norm_num : (4 : ℝ) ≠ 0), mul_right_comm,
      EReal.right_distrib_of_nonneg (add_nonneg (add_nonneg (hh _ _ _) (hh _ _ _)) (hh _ _ _)) (hh _ _ _),
      EReal.right_distrib_of_nonneg (add_nonneg (hh _ _ _) (hh _ _ _)) (hh _ _ _),
      EReal.right_distrib_of_nonneg (hh _ _ _) (hh _ _ _), add_assoc]
  rw [key]
  rfl

/-! ## The first layer: finite inputs -/

/-- A finite feature added to any bias, times a finite weight: the product distributes. -/
theorem coe_add_mul_coe (r : ℝ) (b : EReal) (w : ℝ) : ((r : EReal) + b) * (w : EReal) = ((r * w : ℝ) : EReal) + b * (w : EReal) := by
  induction b using EReal.rec with
  | bot =>
    rcases lt_trichotomy w 0 with hw | rfl | hw
    · rw [EReal.add_bot, EReal.bot_mul_coe_of_neg hw, EReal.coe_add_top]
    · simp
    · rw [EReal.add_bot, EReal.bot_mul_coe_of_pos hw, EReal.add_bot]
  | coe x => rw [← EReal.coe_add, ← EReal.coe_mul, ← EReal.coe_mul, ← EReal.coe_add, add_mul]
  | top =>
    rcases lt_trichotomy w 0 with hw | rfl | hw
    · rw [EReal.coe_add_top, EReal.top_mul_coe_of_neg hw, EReal.add_bot]
    · simp
    · rw [EReal.coe_add_top, EReal.top_mul_coe_of_pos hw, EReal.coe_add_top]

/-- The mean of four finite features, each with the same bias: the bias comes out of the mean. -/
theorem mean_add_bias (u1 u2 u3 u4 : ℝ) (b : EReal) :
    (((((u1 : EReal) + b) + (u2 + b)) + (u3 + b)) + (u4 + b)) * ((1 / 4 : ℝ) : EReal)
      = (((((u1 + u2) + u3) + u4) * (1 / 4) : ℝ) : EReal) + b := by
  have hq : (0 : ℝ) < 1 / 4 := by norm_num
  induction b using EReal.rec with
  | bot => simp only [EReal.add_bot]; rw [EReal.bot_mul_coe_of_pos hq]
  | coe x =>
    simp only [← EReal.coe_add, ← EReal.coe_mul]
    exact congrArg _ (by ring)
  | top => simp only [EReal.coe_add_top, EReal.top_add_top]; rw [EReal.top_mul_coe_of_pos hq]

/-- Over a sum of channels: finite features plus any bias, times finite weights. -/
theorem sum_add_bias (u t : Fin 64 → ℝ) (be : Fin 64 → EReal) :
    ∑ k, ((u k : EReal) + be k) * (t k : EReal) = ((∑ k, u k * t k : ℝ) : EReal) + ∑ k, be k * (t k : EReal) := by
  rw [coe_sum, ← Finset.sum_add_distrib]
  exact Finset.sum_congr rfl fun k _ => coe_add_mul_coe _ _ _

/-- The neighbours' mean through the weights, over the reals: `x`, `u` are the skip and upsampled features of the four neighbours. -/
theorem mean_real (x1 x2 x3 x4 u1 u2 u3 u4 v w : Fin 64 → ℝ) :
    (((((∑ k, x1 k * v k) + ∑ k, u1 k * w k) + ((∑ k, x2 k * v k) + ∑ k, u2 k * w k))
        + (((∑ k, x3 k * v k) + ∑ k, u3 k * w k) + ((∑ k, x4 k * v k) + ∑ k, u4 k * w k)))) * (1 / 4)
      = (∑ k, (((x1 k + x2 k) + x3 k) + x4 k) * (1 / 4) * v k) + ∑ k, (((u1 k + u2 k) + u3 k) + u4 k) * (1 / 4) * w k := by
  have e : ∀ a1 a2 a3 a4 c : Fin 64 → ℝ, ∑ k, (((a1 k + a2 k) + a3 k) + a4 k) * (1 / 4) * c k
      = ((∑ k, a1 k * c k) + (∑ k, a2 k * c k) + (∑ k, a3 k * c k) + ∑ k, a4 k * c k) * (1 / 4) := by
    intro a1 a2 a3 a4 c
    rw [← Finset.sum_add_distrib, ← Finset.sum_add_distrib, ← Finset.sum_add_distrib, Finset.sum_mul]
    exact Finset.sum_congr rfl fun k _ => by ring
  rw [e, e]; ring

/-- The order in which the parts of the first layer are added does not matter. -/
theorem regroup (a b c d e g z : EReal) : ((a + (b + e)) + (c + (d + g))) + z = ((a + b) + (c + d)) + ((z + e) + g) := by abel

/-- The first 64 channels of the concatenation. -/
theorem cat_lo (x2 u : Grid 64) (bup : Fin 64 → EReal) (i j : Fin 128) (k : Fin 64) : cat x2 u bup i j (lo k) = x2 i j k := by
  unfold cat lo; rw [dif_pos k.isLt]
/-- The last 64 channels of the concatenation. -/
theorem cat_hi (x2 u : Grid 64) (bup : Fin 64 → EReal) (i j : Fin 128) (k : Fin 64) : cat x2 u bup i j (hi k) = u i j k + bup k := by
  unfold cat hi
  rw [dif_neg (by simp)]
  have e : (⟨64 + k.val - 64, by omega⟩ : Fin 64) = k := Fin.ext (by simp)
  rw [e]

/-- With finite features, neighbour weights and own weights of the upsampled features, the first layer of the kernel is the
    reference's, whatever the two biases and the own weights of the skip features. -/
theorem layer_cat_eq_mix (x2 u : Fin 128 → Fin 128 → Fin 64 → ℝ) (bup : Fin 64 → EReal) (Ws : Fin 128 → Fin 64 → EReal)
    (t : Fin 64 → Fin 64 → ℝ) (ht : ∀ k o, Ws (hi k) o = (t k o : EReal)) (Wn : Fin 128 → Fin 64 → ℝ) (b : Fin 64 → EReal) :
    layer (cat (fun i j k => (x2 i j k : EReal)) (fun i j k => (u i j k : EReal)) bup) Ws (fun k o => (Wn k o : EReal)) b
      = mix (prod1 (fun i j k => (x2 i j k : EReal)) (fun i j k => (u i j k : EReal)) Ws)
          (prod1 (fun i j k => (x2 i j k : EReal)) (fun i j k => (u i j k : EReal)) (fun k o => (Wn k o : EReal)))
          (bias1 bup Ws (fun k o => (Wn k o : EReal)) b) := by
  funext i j o
  unfold layer mix prod1 bias1 stn
  refine congrArg (max · 0) ?_
  rw [sum_split, sum_split (fun k => Ideal.div _ _ * _)]
  simp only [cat_lo, cat_hi, Ideal.div_coe (by norm_num : (4 : ℝ) ≠ 0), mean_add_bias, ht]
  rw [sum_add_bias, sum_add_bias]
  simp only [← EReal.coe_mul, ← EReal.coe_add, ← coe_sum]
  rw [mean_real, EReal.coe_add]
  exact regroup _ _ _ _ _ _ _

/-- The upsampling of finite features by finite weights is finite. -/
theorem upv_real (x1 : Fin 64 → Fin 64 → Fin 128 → ℝ) (W : Fin 128 → Fin 64 → Fin 2 → Fin 2 → ℝ) :
    upv (fun i j c => (x1 i j c : EReal)) (fun c k p q => (W c k p q : EReal))
      = fun i j k => ((∑ c, x1 (half i) (half j) c * W c k (par i) (par j) : ℝ) : EReal) := by
  funext i j k
  unfold upv
  simp only [← EReal.coe_mul, ← coe_sum]

/-- **The equation**: on one tile whose features, upsampling weights, first-layer neighbour weights and first-layer own weights of
    the upsampled features are finite, the kernel computes what the reference computes. -/
theorem kerTile_eq_refTile (x1 : Fin 64 → Fin 64 → Fin 128 → EReal) (x2 : Grid 64) (W : Fin 128 → Fin 64 → Fin 2 → Fin 2 → EReal)
    (bup : Fin 64 → EReal) (Ws1 Wn1 : Fin 128 → Fin 64 → EReal) (b1 : Fin 64 → EReal) (Ws2 Wn2 : Fin 64 → Fin 64 → EReal)
    (b2 : Fin 64 → EReal)
    (hx1 : ∀ i j c, ∃ r : ℝ, x1 i j c = (r : EReal)) (hx2 : ∀ i j c, ∃ r : ℝ, x2 i j c = (r : EReal))
    (hW : ∀ c k p q, ∃ r : ℝ, W c k p q = (r : EReal))
    (hWs : ∀ k o, ∃ r : ℝ, Ws1 (hi k) o = (r : EReal)) (hWn : ∀ k o, ∃ r : ℝ, Wn1 k o = (r : EReal)) :
    kerTile x1 x2 W bup Ws1 Wn1 b1 Ws2 Wn2 b2 = refTile x1 x2 W bup Ws1 Wn1 b1 Ws2 Wn2 b2 := by
  choose x1' hx1 using hx1
  choose x2' hx2 using hx2
  choose W' hW using hW
  choose Ws' hWs using hWs
  choose Wn' hWn using hWn
  obtain rfl : x1 = fun i j c => (x1' i j c : EReal) := by funext i j c; exact hx1 i j c
  obtain rfl : x2 = fun i j c => (x2' i j c : EReal) := by funext i j c; exact hx2 i j c
  obtain rfl : W = fun c k p q => (W' c k p q : EReal) := by funext c k p q; exact hW c k p q
  obtain rfl : Wn1 = fun k o => (Wn' k o : EReal) := by funext k o; exact hWn k o
  unfold kerTile refTile
  rw [upv_real, layer_cat_eq_mix _ _ _ _ Ws' hWs, layer_eq_mix _ (mix_nonneg _ _ _)]

end Cert.Sage

end
-- ==== Proof.Pre.lean ====
/- What the precondition says: every element of the features, of the upsampling weights, of the first layer's
   neighbour weights and of its own weights for the upsampled features is a finite number. -/
module

public import proofs.«01_k».proof.Defs
public import proofs.«01_k».proof.Proof.Spec
public import Idealize.ShloMosaic.Lib.ReduceAll
public import Idealize.ShloMosaic.Lib.Affine
public import Idealize.ShloMosaic.Lib.ValueIdxCore
public import Idealize.ShloMosaic.Lib.Pipeline.Value
public import Idealize.ShloMosaic.PureOps.Ideal

@[expose] public section

noncomputable section

namespace Cert.Sage

open Idealize.ShloMosaic Cert.Pre_finite_inputs
open Cert.Pre_finite_inputs.Facts
open Idealize.ShloMosaic.ValueIdx (ix2)

theorem inf_bits : Ideal.ofBits .f32 0x7F800000#32 = (⊤ : EReal) := by
  simp [Ideal.ofBits, Ideal.ieee]

/-- A number whose absolute value is below infinity is a real one. -/
theorem real_of_abs_lt (x : EReal) (h : Ideal.cmp .olt (max x (-x)) (⊤ : EReal) = 1#1) : ∃ r : ℝ, x = (r : EReal) := by
  induction x using EReal.rec with
  | bot => exact absurd h (by simp [Ideal.cmp])
  | coe r => exact ⟨r, rfl⟩
  | top => exact absurd h (by simp [Ideal.cmp])

instance : Subsingleton S_.Idx := ⟨fun a b => funext fun i => i.elim0⟩

/-- One conjunct of the predicate: all elements of `x` are finite. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf (F := Ideal) .olt (Host.absf x) (broadcastInDim s ![] hb (constant S_ .f32 0x7F800000#32)))
      (constantI S_ 1 1#1) hr hu j = 1#1) (i : s.Idx) : ∃ r : ℝ, x i = (r : EReal) := by
  have h := Host.reduce_andi_all _ _ hr hu j e i
  refine real_of_abs_lt (x i) ?_
  rw [← inf_bits]
  exact h

variable [Cert.Pre_finite_inputs.Facts]

/-- The predicate's five conjuncts. -/
theorem pre_real (a0 : FVec Ideal S1x6x64x64x128 .f32) (a1 : FVec Ideal S1x6x128x128x64 .f32) (a2 : FVec Ideal S128x64x2x2 .f32)
    (a3 : FVec Ideal S64 .f32) (a4 a5 : FVec Ideal S128x64 .f32) (a6 : FVec Ideal S64 .f32) (a7 a8 : FVec Ideal S64x64 .f32)
    (a9 : FVec Ideal S64 .f32) (h : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal))
      ∧ (∀ k o : Fin 64, ∃ r : ℝ, a4 (ix2 (hi k) o) = (r : EReal)) ∧ (∀ i, ∃ r : ℝ, a5 i = (r : EReal)) := by
  have j : S_.Idx := fun a => a.elim0
  have e := congrFun h j
  unfold Cert.Pre_finite_inputs.fn Cert.Pre_finite_inputs.fn_part1 at e
  obtain ⟨e, e5⟩ := IntOp.andi_eq_one.1 e
  obtain ⟨e, e4⟩ := IntOp.andi_eq_one.1 e
  obtain ⟨e, e2⟩ := IntOp.andi_eq_one.1 e
  obtain ⟨e0, e1⟩ := IntOp.andi_eq_one.1 e
  refine ⟨all_real a0 _ _ _ j e0, all_real a1 _ _ _ j e1, all_real a2 _ _ _ j e2, fun k o => ?_, all_real a5 _ _ _ j e5⟩
  obtain ⟨r, hr⟩ := all_real _ _ _ _ j e4 (ix2 k o)
  refine ⟨r, Eq.trans ?_ hr⟩
  exact (extractStridedSlice_apply _ _ _ _ _ (by
    intro a; fin_cases a
    · show 64 + k.val = 64 + k.val; rfl
    · show o.val = 0 + o.val; omega)).symm

end Cert.Sage

end
-- ==== Proof.Rotate.lean ====
/- The layout steps of the kernel's stencil, each read at an index: a rotation of rows, of packed columns, and the swap of
   the two 64-channel halves. A packed array has 128 rows, 64 packed columns and 128 lanes. -/
module

public import proofs.«01_k».proof.Proof.Spec
public import proofs.«01_k».proof.Proof.Gen.KernelIdeal.Skeleton
public import Idealize.ShloMosaic.Lib.Pipeline.Value
public import Idealize.ShloMosaic.Lib.ValueIdxCore
public import Idealize.ShloMosaic.Lib.ValueIdxCoords

@[expose] public section

noncomputable section

namespace Cert.Sage

open Idealize.ShloMosaic Idealize.ShloMosaic.ValueIdx Cert.KernelIdeal Cert.KernelIdeal.Gen

variable {α : Type}

/-- The next packed column. -/
def nxtW (w : Fin 64) : Fin 64 := ⟨(w.val + 1) % 64, Nat.mod_lt _ (by decide)⟩
/-- The previous packed column. -/
def prvW (w : Fin 64) : Fin 64 := ⟨(w.val + 63) % 64, Nat.mod_lt _ (by decide)⟩
/-- The same channel in the other half of the lanes. -/
def flip (l : Fin 128) : Fin 128 := ⟨(l.val + 64) % 128, Nat.mod_lt _ (by decide)⟩

/-- Rows rotated up: row `i` reads row `i + 1`. -/
theorem rowNext (v : S128x64x128.Idx → α) (h1 h2 h3) (i : Fin 128) (w : Fin 64) (l : Fin 128) :
    concatenate S128x64x128 0 [⟨S127x64x128, extractStridedSlice S127x64x128 ![1, 0, 0] v h1⟩,
      ⟨S1x64x128, extractStridedSlice S1x64x128 ![0, 0, 0] v h2⟩] h3 (ix3 i w l) = v (ix3 (nxt i) w l) := by
  by_cases hi : i.val < 127
  · rw [concatenate_pair_apply_left (t := S128x64x128) (s₁ := S127x64x128) (s₂ := S1x64x128) 0 _ _ h3 (ix3 i w l) rfl
      (ix3 ⟨i.val, hi⟩ w l) (by intro b; fin_cases b <;> rfl)]
    refine extractStridedSlice_apply _ v h1 _ (ix3 (nxt i) w l) ?_
    intro a; fin_cases a
    · show (i.val + 1) % 128 = 1 + i.val; omega
    · show w.val = 0 + w.val; omega
    · show l.val = 0 + l.val; omega
  · rw [concatenate_pair_apply_right (t := S128x64x128) (s₁ := S127x64x128) (s₂ := S1x64x128) 0 _ _ h3 (ix3 i w l) rfl rfl
      (ix3 (0 : Fin 1) w l) (by intro b hb; fin_cases b <;> first | rfl | exact absurd rfl hb)
      (by show 0 + 127 = i.val; omega)]
    refine extractStridedSlice_apply _ v h2 _ (ix3 (nxt i) w l) ?_
    intro a; fin_cases a
    · show (i.val + 1) % 128 = 0 + 0; omega
    · show w.val = 0 + w.val; omega
    · show l.val = 0 + l.val; omega

/-- Rows rotated down: row `i` reads row `i - 1`. -/
theorem rowPrev (v : S128x64x128.Idx → α) (h1 h2 h3) (i : Fin 128) (w : Fin 64) (l : Fin 128) :
    concatenate S128x64x128 0 [⟨S1x64x128, extractStridedSlice S1x64x128 ![127, 0, 0] v h1⟩,
      ⟨S127x64x128, extractStridedSlice S127x64x128 ![0, 0, 0] v h2⟩] h3 (ix3 i w l) = v (ix3 (prv i) w l) := by
  by_cases hi : i.val < 1
  · rw [concatenate_pair_apply_left (t := S128x64x128) (s₁ := S1x64x128) (s₂ := S127x64x128) 0 _ _ h3 (ix3 i w l) rfl
      (ix3 ⟨i.val, hi⟩ w l) (by intro b; fin_cases b <;> rfl)]
    refine extractStridedSlice_apply _ v h1 _ (ix3 (prv i) w l) ?_
    intro a; fin_cases a
    · show (i.val + 127) % 128 = 127 + i.val; omega
    · show w.val = 0 + w.val; omega
    · show l.val = 0 + l.val; omega
  · rw [concatenate_pair_apply_right (t := S128x64x128) (s₁ := S1x64x128) (s₂ := S127x64x128) 0 _ _ h3 (ix3 i w l) rfl rfl
      (ix3 (⟨i.val - 1, by omega⟩ : Fin 127) w l) (by intro b hb; fin_cases b <;> first | rfl | exact absurd rfl hb)
      (by show i.val - 1 + 1 = i.val; omega)]
    refine extractStridedSlice_apply _ v h2 _ (ix3 (prv i) w l) ?_
    intro a; fin_cases a
    · show (i.val + 127) % 128 = 0 + (i.val - 1); omega
    · show w.val = 0 + w.val; omega
    · show l.val = 0 + l.val; omega

/-- Packed columns rotated left: packed column `w` reads `w + 1`. -/
theorem colNext (v : S128x64x128.Idx → α) (h1 h2 h3) (i : Fin 128) (w : Fin 64) (l : Fin 128) :
    concatenate S128x64x128 1 [⟨S128x63x128, extractStridedSlice S128x63x128 ![0, 1, 0] v h1⟩,
      ⟨S128x1x128, extractStridedSlice S128x1x128 ![0, 0, 0] v h2⟩] h3 (ix3 i w l) = v (ix3 i (nxtW w) l) := by
  by_cases hw : w.val < 63
  · rw [concatenate_pair_apply_left (t := S128x64x128) (s₁ := S128x63x128) (s₂ := S128x1x128) 1 _ _ h3 (ix3 i w l) rfl
      (ix3 i ⟨w.val, hw⟩ l) (by intro b; fin_cases b <;> rfl)]
    refine extractStridedSlice_apply _ v h1 _ (ix3 i (nxtW w) l) ?_
    intro a; fin_cases a
    · show i.val = 0 + i.val; omega
    · show (w.val + 1) % 64 = 1 + w.val; omega
    · show l.val = 0 + l.val; omega
  · rw [concatenate_pair_apply_right (t := S128x64x128) (s₁ := S128x63x128) (s₂ := S128x1x128) 1 _ _ h3 (ix3 i w l) rfl rfl
      (ix3 i (0 : Fin 1) l) (by intro b hb; fin_cases b <;> first | rfl | exact absurd rfl hb)
      (by show 0 + 63 = w.val; omega)]
    refine extractStridedSlice_apply _ v h2 _ (ix3 i (nxtW w) l) ?_
    intro a; fin_cases a
    · show i.val = 0 + i.val; omega
    · show (w.val + 1) % 64 = 0 + 0; omega
    · show l.val = 0 + l.val; omega

/-- Packed columns rotated right: packed column `w` reads `w - 1`. -/
theorem colPrev (v : S128x64x128.Idx → α) (h1 h2 h3) (i : Fin 128) (w : Fin 64) (l : Fin 128) :
    concatenate S128x64x128 1 [⟨S128x1x128, extractStridedSlice S128x1x128 ![0, 63, 0] v h1⟩,
      ⟨S128x63x128, extractStridedSlice S128x63x128 ![0, 0, 0] v h2⟩] h3 (ix3 i w l) = v (ix3 i (prvW w) l) := by
  by_cases hw : w.val < 1
  · rw [concatenate_pair_apply_left (t := S128x64x128) (s₁ := S128x1x128) (s₂ := S128x63x128) 1 _ _ h3 (ix3 i w l) rfl
      (ix3 i ⟨w.val, hw⟩ l) (by intro b; fin_cases b <;> rfl)]
    refine extractStridedSlice_apply _ v h1 _ (ix3 i (prvW w) l) ?_
    intro a; fin_cases a
    · show i.val = 0 + i.val; omega
    · show (w.val + 63) % 64 = 63 + w.val; omega
    · show l.val = 0 + l.val; omega
  · rw [concatenate_pair_apply_right (t := S128x64x128) (s₁ := S128x1x128) (s₂ := S128x63x128) 1 _ _ h3 (ix3 i w l) rfl rfl
      (ix3 i (⟨w.val - 1, by omega⟩ : Fin 63) l) (by intro b hb; fin_cases b <;> first | rfl | exact absurd rfl hb)
      (by show w.val - 1 + 1 = w.val; omega)]
    refine extractStridedSlice_apply _ v h2 _ (ix3 i (prvW w) l) ?_
    intro a; fin_cases a
    · show i.val = 0 + i.val; omega
    · show (w.val + 63) % 64 = 0 + (w.val - 1); omega
    · show l.val = 0 + l.val; omega

/-- The two 64-channel halves of the lanes swapped. -/
theorem laneSwap (v : S128x64x128.Idx → α) (h1 h2 h3) (i : Fin 128) (w : Fin 64) (l : Fin 128) :
    concatenate S128x64x128 2 [⟨S128x64x64, extractStridedSlice S128x64x64 ![0, 0, 64] v h1⟩,
      ⟨S128x64x64, extractStridedSlice S128x64x64 ![0, 0, 0] v h2⟩] h3 (ix3 i w l) = v (ix3 i w (flip l)) := by
  by_cases hl : l.val < 64
  · rw [concatenate_pair_apply_left (t := S128x64x128) (s₁ := S128x64x64) (s₂ := S128x64x64) 2 _ _ h3 (ix3 i w l) rfl
      (ix3 i w ⟨l.val, hl⟩) (by intro b; fin_cases b <;> rfl)]
    refine extractStridedSlice_apply _ v h1 _ (ix3 i w (flip l)) ?_
    intro a; fin_cases a
    · show i.val = 0 + i.val; omega
    · show w.val = 0 + w.val; omega
    · show (l.val + 64) % 128 = 64 + l.val; omega
  · rw [concatenate_pair_apply_right (t := S128x64x128) (s₁ := S128x64x64) (s₂ := S128x64x64) 2 _ _ h3 (ix3 i w l) rfl rfl
      (ix3 i w (⟨l.val - 64, by omega⟩ : Fin 64)) (by intro b hb; fin_cases b <;> first | rfl | exact absurd rfl hb)
      (by show l.val - 64 + 64 = l.val; omega)]
    refine extractStridedSlice_apply _ v h2 _ (ix3 i w (flip l)) ?_
    intro a; fin_cases a
    · show i.val = 0 + i.val; omega
    · show w.val = 0 + w.val; omega
    · show (l.val + 64) % 128 = 0 + (l.val - 64); omega

/-- The lane mask: one exactly on the first 64 lanes. -/
theorem laneMask (h) (i : Fin 128) (w : Fin 64) (l : Fin 128) :
    cmpi .slt (iota .tc S128x64x128 32 [2] h) (broadcast S128x64x128 64#32) (ix3 i w l) = if l.val < 64 then 1#1 else 0#1 := by
  have e : iota .tc S128x64x128 32 [2] h (ix3 i w l) = BitVec.ofNat 32 l.val := iota_single_apply _ _ _ _ _ _
  show IntOp.cmpi .slt (iota .tc S128x64x128 32 [2] h (ix3 i w l)) 64#32 = _
  rw [e]
  obtain ⟨l, hl⟩ := l
  show IntOp.cmpi .slt (BitVec.ofNat 32 l) 64#32 = if l < 64 then 1#1 else 0#1
  have : (BitVec.ofNat 32 l).slt 64#32 = decide (l < 64) := by
    rw [BitVec.slt_eq_decide]
    have h1 : (BitVec.ofNat 32 l).toInt = l := by
      rw [BitVec.toInt_eq_toNat_of_lt] <;> rw [BitVec.toNat_ofNat, Nat.mod_eq_of_lt (by omega)]; omega
    rw [h1]
    simp
  by_cases hlt : l < 64 <;> simp [IntOp.cmpi, this, hlt]

/-- A selection under that mask. -/
theorem laneSelect (h) (a b : S128x64x128.Idx → α) (i : Fin 128) (w : Fin 64) (l : Fin 128) :
    select (cmpi .slt (iota .tc S128x64x128 32 [2] h) (broadcast S128x64x128 64#32)) a b (ix3 i w l)
      = if l.val < 64 then a (ix3 i w l) else b (ix3 i w l) := by
  show Scalar.select (cmpi .slt (iota .tc S128x64x128 32 [2] h) (broadcast S128x64x128 64#32) (ix3 i w l)) _ _ = _
  rw [laneMask]
  split <;> simp [Scalar.select]

end Cert.Sage

end
-- ==== Proof.Block.lean ====
/- What the kernel's body writes for one tile, at an index of its packed output block: the two packed layers as sums over
   lanes. -/
module

public import proofs.«01_k».proof.Proof.Rotate
public import Idealize.ShloMosaic.Lib.MatmulPlain
public import proofs.«01_k».proof.Proof.Gen.KernelIdeal.Frame

@[expose] public section

noncomputable section

namespace Cert.Sage

open Idealize.ShloMosaic Idealize.ShloMosaic.ValueIdx Cert.KernelIdeal Cert.KernelIdeal.Gen
open scoped BigOperators

/-- A packed grid: row, packed column, lane. -/
abbrev Packed (L : ℕ) := Fin 128 → Fin 64 → Fin L → EReal

/-- Lane `l` of the first half of 256. -/
def loP (l : Fin 128) : Fin 256 := ⟨l.val, by omega⟩
/-- Lane `l` of the second half of 256. -/
def hiP (l : Fin 128) : Fin 256 := ⟨128 + l.val, by omega⟩
/-- The column of the upsampling product that row `i`'s parity selects, lane `k`. -/
def upCol (i : Fin 128) (k : Fin 128) : Fin 256 := ⟨i.val % 2 * 128 + k.val, by omega⟩

/-- The upsampled features, packed. -/
def upP (x0 : Vec Ideal S1x64x64x128 .f32) (x2 : Vec Ideal S128x256 .f32) : Packed 128 := fun i w k =>
  ∑ c : Fin 128, x0 (ix4 0 (half i) w c) * x2 (ix2 c (upCol i k))

/-- The first layer's packed product. -/
def prodP1 (x0 : Vec Ideal S1x64x64x128 .f32) (x1 : Vec Ideal S1x128x64x128 .f32) (x2 x3 x4 : Vec Ideal S128x256 .f32) : Packed 256 :=
  fun i w c => (∑ k : Fin 128, x1 (ix4 0 i w k) * x3 (ix2 k c)) + ∑ k : Fin 128, upP x0 x2 i w k * x4 (ix2 k c)

/-- The second layer's packed product. -/
def prodP2 (h : Packed 128) (x6 : Vec Ideal S128x256 .f32) : Packed 256 := fun i w c => ∑ k : Fin 128, h i w k * x6 (ix2 k c)

/-- The packed stencil. -/
def stnP (v : Packed 128) : Packed 128 := fun i w l =>
  (v (nxt i) w l + v (prv i) w l)
    + ((if l.val < 64 then v i w (flip l) else v i (nxtW w) (flip l)) + (if l.val < 64 then v i (prvW w) (flip l) else v i w (flip l)))

/-- A packed layer after its product. -/
def mixP (M : Packed 256) (b : Vec Ideal S1x128 .f32) : Packed 128 := fun i w l =>
  max ((M i w (loP l) + stnP (fun i w l => M i w (hiP l)) i w l * ((1 / 4 : ℝ) : EReal)) + b (ix2 0 l)) 0

/-! ## The constants -/

theorem quarter_bits : (Scalar.ofBits .f32 0x3E800000#32 : Ideal .f32) = ((1 / 4 : ℝ) : EReal) := by
  show Ideal.ofBits .f32 0x3E800000#32 = _
  simp [Ideal.ofBits, Ideal.ieee, -EReal.coe_mul]; norm_num
theorem zero_bits : (Scalar.ofBits .f32 0x00000000#32 : Ideal .f32) = 0 := by
  show Ideal.ofBits .f32 0x00000000#32 = _
  simp [Ideal.ofBits, Ideal.ieee]

/-! ## The two products -/

theorem dot1_plain : dot_S4096x128_S128x256_S4096x256_1_0_0_1_n_n = DotDims.plain 4096 128 256 := rfl
theorem dot2_plain : dot_S8192x128_S128x256_S8192x256_1_0_0_1_n_n = DotDims.plain 8192 128 256 := rfl

/-- A matrix product of 8192 rows by 128 × 256 weights, onto zero. -/
theorem matmul8192 (a : FVec Ideal S8192x128 .f32) (b : FVec Ideal S128x256 .f32) (r : Fin 8192) (c : Fin 256) :
    matmul dot_S8192x128_S128x256_S8192x256_1_0_0_1_n_n none a b (constant S8192x256 .f32 0x00000000#32) (ix2 r c)
      = ∑ k : Fin 128, a (ix2 r k) * b (ix2 k c) := by
  rw [dot2_plain]
  refine (Ideal.matmul_plain_apply none a b _ r c).trans ?_
  rw [show (constant S8192x256 .f32 0x00000000#32 : FVec Ideal S8192x256 .f32) (ix2 r c) = 0 from zero_bits, zero_add]

/-- A matrix product of 4096 rows by 128 × 256 weights, onto zero. -/
theorem matmul4096 (a : FVec Ideal S4096x128 .f32) (b : FVec Ideal S128x256 .f32) (r : Fin 4096) (c : Fin 256) :
    matmul dot_S4096x128_S128x256_S4096x256_1_0_0_1_n_n none a b (constant S4096x256 .f32 0x00000000#32) (ix2 r c)
      = ∑ k : Fin 128, a (ix2 r k) * b (ix2 k c) := by
  rw [dot1_plain]
  refine (Ideal.matmul_plain_apply none a b _ r c).trans ?_
  rw [show (constant S4096x256 .f32 0x00000000#32 : FVec Ideal S4096x256 .f32) (ix2 r c) = 0 from zero_bits, zero_add]

/-- The packed grid's rows laid out flat: position `64 i + w`. -/
def flatP (i : Fin 128) (w : Fin 64) : Fin 8192 := ⟨i.val * 64 + w.val, by omega⟩
/-- The coarse grid's rows laid out flat. -/
def flatC (i w : Fin 64) : Fin 4096 := ⟨i.val * 64 + w.val, by omega⟩

theorem unflat256 {α : Type} (v : S8192x256.Idx → α) (h) (i : Fin 128) (w : Fin 64) (c : Fin 256) :
    shapeCast S128x64x256 v h (ix3 i w c) = v (ix2 (flatP i w) c) :=
  shapeCast_apply v h _ _ (by
    rw [Shape.rowMajor_val_two, Shape.rowMajor_val_three]; rfl)
theorem flat128 {α : Type} (v : S128x64x128.Idx → α) (h) (i : Fin 128) (w : Fin 64) (c : Fin 128) :
    shapeCast S8192x128 v h (ix2 (flatP i w) c) = v (ix3 i w c) :=
  shapeCast_apply v h _ _ (by
    rw [Shape.rowMajor_val_two, Shape.rowMajor_val_three]; rfl)

/-- The upsampling product at a coarse node and a column. -/
theorem upProd_apply (v0 : FVec Ideal S1x64x64x128 .f32) (v5 : FVec Ideal S128x256 .f32) (h1 h2 h3) (i w : Fin 64) (c : Fin 256) :
    matmul (F := Ideal) dot_S4096x128_S128x256_S4096x256_1_0_0_1_n_n none
        (shapeCast S4096x128 (shapeCast S64x64x128 v0 h1) h2 : FVec Ideal S4096x128 .f32) (shapeCast S128x256 v5 h3 : FVec Ideal S128x256 .f32)
        (constant S4096x256 .f32 0x00000000#32) (ix2 (flatC i w) c)
      = ∑ k : Fin 128, v0 (ix4 0 i w k) * v5 (ix2 k c) := by
  rw [matmul4096, shapeCast_self]
  refine Finset.sum_congr rfl fun k _ => congrArg (· * _) ?_
  rw [shapeCast_apply _ h2 (ix2 (flatC i w) k) (ix3 i w k) (by
    rw [Shape.rowMajor_val_two, Shape.rowMajor_val_three]; rfl)]
  exact shapeCast_apply v0 h1 _ (ix4 0 i w k) (by
    rw [Shape.rowMajor_val_four, Shape.rowMajor_val_three]
    show ((0 * 64 + i.val) * 64 + w.val) * 128 + k.val = (i.val * 64 + w.val) * 128 + k.val
    omega)

/-- The upsampled features as the body stacks them: even rows from the first 128 columns of the product, odd rows from the last. -/
theorem up_apply (B : S4096x256.Idx → EReal) (h4 h5 h6 h7 h8 h9 h10 h11) (i : Fin 128) (w : Fin 64) (k : Fin 128) :
    shapeCast S128x64x128 (concatenate S64x2x64x128 1
      [⟨S64x1x64x128, shapeCast S64x1x64x128 (shapeCast S64x64x128 (extractStridedSlice S4096x128 ![0, 0] B h4) h5) h6⟩,
       ⟨S64x1x64x128, shapeCast S64x1x64x128 (shapeCast S64x64x128 (extractStridedSlice S4096x128 ![0, 128] B h7) h8) h9⟩] h10) h11 (ix3 i w k)
      = B (ix2 (flatC (half i) w) (upCol i k)) := by
  rw [shapeCast_apply _ h11 (ix3 i w k) (ix4 (half i) (par i) w k) (by
    rw [Shape.rowMajor_val_four, Shape.rowMajor_val_three]
    show ((i.val / 2 * 2 + i.val % 2) * 64 + w.val) * 128 + k.val = (i.val * 64 + w.val) * 128 + k.val
    omega)]
  by_cases hp : i.val % 2 < 1
  · rw [concatenate_pair_apply_left (t := S64x2x64x128) (s₁ := S64x1x64x128) (s₂ := S64x1x64x128) 1 _ _ h10 (ix4 (half i) (par i) w k) rfl
      (ix4 (half i) (⟨i.val % 2, hp⟩ : Fin 1) w k) (by intro b; fin_cases b <;> rfl)]
    rw [shapeCast_apply _ h6 _ (ix3 (half i) w k) (by
      rw [Shape.rowMajor_val_four, Shape.rowMajor_val_three]
      show (i.val / 2 * 64 + w.val) * 128 + k.val = ((i.val / 2 * 1 + i.val % 2) * 64 + w.val) * 128 + k.val
      omega)]
    rw [shapeCast_apply _ h5 _ (ix2 (flatC (half i) w) k) (by
      rw [Shape.rowMajor_val_two, Shape.rowMajor_val_three]; rfl)]
    exact extractStridedSlice_apply _ _ h4 _ (ix2 (flatC (half i) w) (upCol i k)) (by
      intro a; fin_cases a
      · show (flatC (half i) w).val = 0 + (flatC (half i) w).val; omega
      · show i.val % 2 * 128 + k.val = 0 + k.val; omega)
  · rw [concatenate_pair_apply_right (t := S64x2x64x128) (s₁ := S64x1x64x128) (s₂ := S64x1x64x128) 1 _ _ h10 (ix4 (half i) (par i) w k) rfl rfl
      (ix4 (half i) (0 : Fin 1) w k) (by intro b hb; fin_cases b <;> first | rfl | exact absurd rfl hb)
      (by show 0 + 1 = i.val % 2; omega)]
    rw [shapeCast_apply _ h9 _ (ix3 (half i) w k) (by
      rw [Shape.rowMajor_val_four, Shape.rowMajor_val_three]
      show (i.val / 2 * 64 + w.val) * 128 + k.val = ((i.val / 2 * 1 + 0) * 64 + w.val) * 128 + k.val
      omega)]
    rw [shapeCast_apply _ h8 _ (ix2 (flatC (half i) w) k) (by
      rw [Shape.rowMajor_val_two, Shape.rowMajor_val_three]; rfl)]
    exact extractStridedSlice_apply _ _ h7 _ (ix2 (flatC (half i) w) (upCol i k)) (by
      intro a; fin_cases a
      · show (flatC (half i) w).val = 0 + (flatC (half i) w).val; omega
      · show i.val % 2 * 128 + k.val = 128 + k.val; omega)

/-- The first product at a packed node and a column. -/
theorem pay2_apply (v0 : Vec Ideal S1x64x64x128 .f32) (v3 : Vec Ideal S1x128x64x128 .f32) (v5 v17 v21 : Vec Ideal S128x256 .f32)
    (i : Fin 128) (w : Fin 64) (c : Fin 256) : k0_pay2 v0 v3 v5 v17 v21 (ix3 i w c) = prodP1 v0 v3 v5 v17 v21 i w c := by
  unfold k0_pay2
  rw [unflat256]
  show _ + _ = _
  rw [matmul8192, matmul8192]
  unfold prodP1
  congr 1
  · refine Finset.sum_congr rfl fun k _ => ?_
    rw [shapeCast_self, flat128]
    refine congrArg (· * _) (shapeCast_apply v3 _ _ (ix4 0 i w k) ?_)
    rw [Shape.rowMajor_val_four, Shape.rowMajor_val_three]
    show ((0 * 128 + i.val) * 64 + w.val) * 128 + k.val = (i.val * 64 + w.val) * 128 + k.val
    omega
  · refine Finset.sum_congr rfl fun k _ => ?_
    rw [shapeCast_self v21, flat128, up_apply, upProd_apply]; rfl

/-! ## The body's result -/

/-- The lanes' first half of a product. -/
theorem sliceLo (M : S128x64x256.Idx → EReal) (h) (i : Fin 128) (w : Fin 64) (l : Fin 128) :
    extractStridedSlice S128x64x128 ![0, 0, 0] M h (ix3 i w l) = M (ix3 i w (loP l)) :=
  extractStridedSlice_apply _ M h _ (ix3 i w (loP l)) (by
    intro a; fin_cases a
    · show i.val = 0 + i.val; omega
    · show w.val = 0 + w.val; omega
    · show l.val = 0 + l.val; omega)
/-- The lanes' second half of a product. -/
theorem sliceHi (M : S128x64x256.Idx → EReal) (h) (i : Fin 128) (w : Fin 64) (l : Fin 128) :
    extractStridedSlice S128x64x128 ![0, 0, 128] M h (ix3 i w l) = M (ix3 i w (hiP l)) :=
  extractStridedSlice_apply _ M h _ (ix3 i w (hiP l)) (by
    intro a; fin_cases a
    · show i.val = 0 + i.val; omega
    · show w.val = 0 + w.val; omega
    · show 128 + l.val = 128 + l.val; omega)
/-- A bias row spread over the grid. -/
theorem bias_apply (b : Vec Ideal S1x128 .f32) (h1 h2 h3) (i : Fin 128) (w : Fin 64) (l : Fin 128) :
    broadcastTo S128x64x128 (shapeCast S1x1x128 (shapeCast S1x128 b h1) h2) h3 (ix3 i w l) = b (ix2 0 l) := by
  rw [shapeCast_self, broadcastTo_apply _ h3 (ix3 i w l) (ix3 0 0 l) (by intro a; fin_cases a <;> rfl)]
  exact shapeCast_apply b h2 _ _ (by
    rw [Shape.rowMajor_val_two, Shape.rowMajor_val_three]
    show 0 * 128 + l.val = (0 * 1 + 0) * 128 + l.val
    omega)

/-- The second product, given the first one's pieces. -/
theorem pay11_apply (v0 : Vec Ideal S1x64x64x128 .f32) (v3 : Vec Ideal S1x128x64x128 .f32) (v5 v17 v21 : Vec Ideal S128x256 .f32)
    (v56 : Vec Ideal S1x128 .f32) (v64 : Vec Ideal S128x256 .f32) (i : Fin 128) (w : Fin 64) (c : Fin 256) :
    k0_pay11 (k0_pay3 v0 v3 v5 v17 v21) (k0_pay5 v0 v3 v5 v17 v21) (k0_pay6 v0 v3 v5 v17 v21) (k0_pay7 v0 v3 v5 v17 v21)
        (k0_pay8 v0 v3 v5 v17 v21) (k0_pay9 v0 v3 v5 v17 v21) (k0_pay10 v0 v3 v5 v17 v21) v56 v64 (ix3 i w c)
      = prodP2 (mixP (prodP1 v0 v3 v5 v17 v21) v56) v64 i w c := by
  unfold k0_pay11
  rw [unflat256, matmul8192]
  unfold prodP2
  refine Finset.sum_congr rfl fun k _ => ?_
  rw [shapeCast_self v64, flat128]
  refine congrArg (· * _) ?_
  have h4 : ∀ i w l, k0_pay4 v0 v3 v5 v17 v21 (ix3 i w l) = prodP1 v0 v3 v5 v17 v21 i w (hiP l) := fun i w l => by
    unfold k0_pay4; rw [sliceHi, pay2_apply]
  have h3 : k0_pay3 v0 v3 v5 v17 v21 (ix3 i w k) = prodP1 v0 v3 v5 v17 v21 i w (loP k) := by
    unfold k0_pay3; rw [sliceLo, pay2_apply]
  have h5 : k0_pay5 v0 v3 v5 v17 v21 (ix3 i w k) = prodP1 v0 v3 v5 v17 v21 (nxt i) w (hiP k) := by
    unfold k0_pay5; rw [rowNext, h4]
  have h6 : k0_pay6 v0 v3 v5 v17 v21 (ix3 i w k) = prodP1 v0 v3 v5 v17 v21 (prv i) w (hiP k) := by
    unfold k0_pay6; rw [rowPrev, h4]
  have h7 : ∀ w l, k0_pay7 v0 v3 v5 v17 v21 (ix3 i w l) = prodP1 v0 v3 v5 v17 v21 i w (hiP (flip l)) := fun w l => by
    unfold k0_pay7; rw [laneSwap, h4]
  have h8 : k0_pay8 v0 v3 v5 v17 v21 (ix3 i w k) = prodP1 v0 v3 v5 v17 v21 i (nxtW w) (hiP (flip k)) := by
    unfold k0_pay8; rw [colNext, h7]
  show max ((_ + ((_ + _) + (_ + _)) * _) + _) _ = _
  rw [laneSelect, laneSelect, bias_apply, h3, h5, h6, h7, h8]
  unfold k0_pay9 k0_pay10
  rw [colPrev, h7]
  rw [show (broadcast S128x64x128 (Scalar.ofBits .f32 0x3E800000#32 : Ideal .f32)) (ix3 i w k) = ((1 / 4 : ℝ) : EReal) from quarter_bits,
    show (broadcast S128x64x128 (Scalar.ofBits .f32 0x00000000#32 : Ideal .f32)) (ix3 i w k) = 0 from zero_bits]
  rfl

end Cert.Sage

end
-- ==== Proof.HostRun.lean ====
/- The arrays @main's host operations hand to the two regions, as functions of the arguments. -/
module

public import proofs.«01_k».proof.Proof.Block
public import proofs.«01_k».proof.Proof.Gen.KernelIdeal.Frame
public import Idealize.ShloMosaic.Lib.StableHlo.RunRead
public import Idealize.ShloMosaic.Lib.Claim

@[expose] public section

noncomputable section

namespace Cert.Sage

open Idealize.ShloMosaic
open Idealize.ShloMosaic.ValueIdx Cert.KernelIdeal Cert.KernelIdeal.Gen Idealize.SL.Sem

/-- The 64 × 64 matrix of zeros. -/
def zero64 : Vec Ideal S64x64 .f32 := broadcastInDim S64x64 ![] bcast_S_S64x64 (constant (F := Ideal) S_ .f32 0x00000000#32 : FVec Ideal S_ .f32)

/-- Two matrices side by side, or one under the other. -/
def beside (a b : Vec Ideal S64x64 .f32) : Vec Ideal S64x128 .f32 :=
  concatenate S64x128 1 [⟨S64x64, a⟩, ⟨S64x64, b⟩] concatenates_S64x64_S64x64_S64x128_d1
def under (a b : Vec Ideal S64x128 .f32) : Vec Ideal S128x128 .f32 :=
  concatenate S128x128 0 [⟨S64x128, a⟩, ⟨S64x128, b⟩] concatenates_S64x128_S64x128_S128x128_d0
def beside2 (a b : Vec Ideal S128x128 .f32) : Vec Ideal S128x256 .f32 :=
  concatenate S128x256 1 [⟨S128x128, a⟩, ⟨S128x128, b⟩] concatenates_S128x128_S128x128_S128x256_d1
def beside4 (a b c d : Vec Ideal S128x64 .f32) : Vec Ideal S128x256 .f32 :=
  concatenate S128x256 1 [⟨S128x64, a⟩, ⟨S128x64, b⟩, ⟨S128x64, c⟩, ⟨S128x64, d⟩] concatenates_S128x64_S128x64_S128x64_S128x64_S128x256_d1
def tiles6 (a b : Vec Ideal S1x3x128x128x64 .f32) : Vec Ideal S1x6x128x128x64 .f32 :=
  concatenate S1x6x128x128x64 1 [⟨S1x3x128x128x64, a⟩, ⟨S1x3x128x128x64, b⟩] concatenates_S1x3x128x128x64_S1x3x128x128x64_S1x6x128x128x64_d1

theorem fold_beside (a b : Vec Ideal S64x64 .f32) :
    concatenate S64x128 1 [⟨S64x64, a⟩, ⟨S64x64, b⟩] concatenates_S64x64_S64x64_S64x128_d1 = beside a b := rfl
theorem fold_under (a b : Vec Ideal S64x128 .f32) :
    concatenate S128x128 0 [⟨S64x128, a⟩, ⟨S64x128, b⟩] concatenates_S64x128_S64x128_S128x128_d0 = under a b := rfl
theorem fold_beside2 (a b : Vec Ideal S128x128 .f32) :
    concatenate S128x256 1 [⟨S128x128, a⟩, ⟨S128x128, b⟩] concatenates_S128x128_S128x128_S128x256_d1 = beside2 a b := rfl
theorem fold_beside4 (a b c d : Vec Ideal S128x64 .f32) :
    concatenate S128x256 1 [⟨S128x64, a⟩, ⟨S128x64, b⟩, ⟨S128x64, c⟩, ⟨S128x64, d⟩]
      concatenates_S128x64_S128x64_S128x64_S128x64_S128x256_d1 = beside4 a b c d := rfl
theorem fold_tiles6 (a b : Vec Ideal S1x3x128x128x64 .f32) :
    concatenate S1x6x128x128x64 1 [⟨S1x3x128x128x64, a⟩, ⟨S1x3x128x128x64, b⟩]
      concatenates_S1x3x128x128x64_S1x3x128x128x64_S1x6x128x128x64_d1 = tiles6 a b := rfl

/-- A 64 × 64 matrix twice down the diagonal of a 128 × 128 one. -/
def diag (W : Vec Ideal S64x64 .f32) : Vec Ideal S128x128 .f32 := under (beside W zero64) (beside zero64 W)

/-- Two such block-diagonal matrices side by side. -/
def diag2 (Ws Wn : Vec Ideal S64x64 .f32) : Vec Ideal S128x256 .f32 := beside2 (diag Ws) (diag Wn)

/-- The first 64 rows of a weight matrix, and the last 64. -/
def topHalf (W : Vec Ideal S128x64 .f32) : Vec Ideal S64x64 .f32 := extractStridedSlice S64x64 ![0, 0] W slices_S128x64_S64x64_0_0
def botHalf (W : Vec Ideal S128x64 .f32) : Vec Ideal S64x64 .f32 := extractStridedSlice S64x64 ![64, 0] W slices_S128x64_S64x64_64_0

/-- A bias written twice, as one row of 128. -/
def twice (b : Vec Ideal S64 .f32) : Vec Ideal S1x128 .f32 :=
  shapeCast S1x128 (shapeCast S128 (broadcastInDim S2x64 ![0, 1] bcast_S1x64_S2x64_0_1 (shapeCast S1x64 b shapeCasts_S64_S1x64)) shapeCasts_S2x64_S128) shapeCasts_S128_S1x128

/-- A vector times a 64 × 64 matrix. -/
def vecMat (v : FVec Ideal S64 .f32) (W : FVec Ideal S64x64 .f32) : FVec Ideal S64 .f32 :=
  Host.dotGeneral (F := Ideal) dot_S64_S64x64_S64_0_0_n_1_n_n none v W

/-- The first layer's bias with the share of the up-convolution's bias added. -/
def foldBias (bup : Vec Ideal S64 .f32) (Ws Wn : Vec Ideal S128x64 .f32) (b : Vec Ideal S64 .f32) : Vec Ideal S64 .f32 :=
  addf (F := Ideal) (φ := .f32) (addf (F := Ideal) (φ := .f32) b (vecMat bup (botHalf Ws))) (vecMat bup (botHalf Wn))

/-- One tap of the up-convolution, and the four side by side. -/
def tap (W : Vec Ideal S128x64x1x1 .f32) : Vec Ideal S128x64 .f32 := shapeCast S128x64 W shapeCasts_S128x64x1x1_S128x64
def taps (W : Vec Ideal S128x64x2x2 .f32) : Vec Ideal S128x256 .f32 :=
  beside4 (tap (extractStridedSlice S128x64x1x1 ![0, 0, 0, 0] W slices_S128x64x2x2_S128x64x1x1_0_0_0_0))
    (tap (extractStridedSlice S128x64x1x1 ![0, 0, 0, 1] W slices_S128x64x2x2_S128x64x1x1_0_0_0_1))
    (tap (extractStridedSlice S128x64x1x1 ![0, 0, 1, 0] W slices_S128x64x2x2_S128x64x1x1_0_0_1_0))
    (tap (extractStridedSlice S128x64x1x1 ![0, 0, 1, 1] W slices_S128x64x2x2_S128x64x1x1_0_0_1_1))

/-- The coarse and the fine features without their leading axis of one. -/
def coarse (x : Vec Ideal S1x6x64x64x128 .f32) : Vec Ideal S6x64x64x128 .f32 := shapeCast S6x64x64x128 x shapeCasts_S1x6x64x64x128_S6x64x64x128
def fine (x : Vec Ideal S1x6x128x128x64 .f32) : Vec Ideal S6x128x128x64 .f32 := shapeCast S6x128x128x64 x shapeCasts_S1x6x128x128x64_S6x128x128x64

/-- Tiles 0..2 and 3..5 of the coarse features, and of the fine features with their columns packed in pairs. -/
def coarse0 (x : Vec Ideal S1x6x64x64x128 .f32) : Vec Ideal S3x64x64x128 .f32 := extractStridedSlice S3x64x64x128 ![0, 0, 0, 0] (coarse x) slices_S6x64x64x128_S3x64x64x128_0_0_0_0
def coarse1 (x : Vec Ideal S1x6x64x64x128 .f32) : Vec Ideal S3x64x64x128 .f32 := extractStridedSlice S3x64x64x128 ![3, 0, 0, 0] (coarse x) slices_S6x64x64x128_S3x64x64x128_3_0_0_0
def fine0 (x : Vec Ideal S1x6x128x128x64 .f32) : Vec Ideal S3x128x64x128 .f32 :=
  shapeCast S3x128x64x128 (extractStridedSlice S3x128x128x64 ![0, 0, 0, 0] (fine x) slices_S6x128x128x64_S3x128x128x64_0_0_0_0) shapeCasts_S3x128x128x64_S3x128x64x128
def fine1 (x : Vec Ideal S1x6x128x128x64 .f32) : Vec Ideal S3x128x64x128 .f32 :=
  shapeCast S3x128x64x128 (extractStridedSlice S3x128x128x64 ![3, 0, 0, 0] (fine x) slices_S6x128x128x64_S3x128x128x64_3_0_0_0) shapeCasts_S3x128x128x64_S3x128x64x128

/-- The two halves of the result put together. -/
def joined (a b : Vec Ideal S3x128x64x128 .f32) : Vec Ideal S1x6x128x128x64 .f32 :=
  tiles6 (shapeCast S1x3x128x128x64 a shapeCasts_S3x128x64x128_S1x3x128x128x64) (shapeCast S1x3x128x128x64 b shapeCasts_S3x128x64x128_S1x3x128x128x64)

variable (m : (ℓ : Loc nD τ sig) → Buf (Elt Ideal) ℓ) (ρ : Dev nD → PrngReg) (c : Dev nD)

/-! What the first stretch of host operations leaves in the arrays the regions read. -/

theorem w1_v0 : W1 m ρ c (Proc.devRef .tc main_v0) = coarse (m ((c.tc : Thread nD τ).loc main_arg0)) := by
  unfold_abbrev_sides
  after_reads_simp
  rfl
theorem w1_v1 : W1 m ρ c (Proc.devRef .tc main_v1) = fine (m ((c.tc : Thread nD τ).loc main_arg1)) := by
  unfold_abbrev_sides
  after_reads_simp
  rfl
theorem w1_v10 : W1 m ρ c (Proc.devRef .tc main_v10) = taps (m ((c.tc : Thread nD τ).loc main_arg2)) := by
  unfold_abbrev_sides
  after_reads_simp [↓fold_beside4]
  rfl
theorem w1_v21 : W1 m ρ c (Proc.devRef .tc main_v21) = diag2 (topHalf (m ((c.tc : Thread nD τ).loc main_arg4))) (topHalf (m ((c.tc : Thread nD τ).loc main_arg5))) := by
  unfold_abbrev_sides
  after_reads_simp [↓fold_beside, ↓fold_under, ↓fold_beside2]
  rfl
theorem w1_v32 : W1 m ρ c (Proc.devRef .tc main_v32) = diag2 (botHalf (m ((c.tc : Thread nD τ).loc main_arg4))) (botHalf (m ((c.tc : Thread nD τ).loc main_arg5))) := by
  unfold_abbrev_sides
  after_reads_simp [↓fold_beside, ↓fold_under, ↓fold_beside2]
  rfl
theorem w1_v41 : W1 m ρ c (Proc.devRef .tc main_v41) = diag2 (m ((c.tc : Thread nD τ).loc main_arg7)) (m ((c.tc : Thread nD τ).loc main_arg8)) := by
  unfold_abbrev_sides
  after_reads_simp [↓fold_beside, ↓fold_under, ↓fold_beside2]
  rfl
theorem w1_v51 : W1 m ρ c (Proc.devRef .tc main_v51) = twice (foldBias (m ((c.tc : Thread nD τ).loc main_arg3)) (m ((c.tc : Thread nD τ).loc main_arg4)) (m ((c.tc : Thread nD τ).loc main_arg5)) (m ((c.tc : Thread nD τ).loc main_arg6))) := by
  unfold_abbrev_sides
  after_reads_simp
  rfl
theorem w1_v55 : W1 m ρ c (Proc.devRef .tc main_v55) = twice (m ((c.tc : Thread nD τ).loc main_arg9)) := by
  unfold_abbrev_sides
  after_reads_simp
  rfl
theorem w1_v56 : W1 m ρ c (Proc.devRef .tc main_v56) = coarse0 (m ((c.tc : Thread nD τ).loc main_arg0)) := by
  unfold_abbrev_sides
  after_reads_simp
  rfl
theorem w1_v58 : W1 m ρ c (Proc.devRef .tc main_v58) = fine0 (m ((c.tc : Thread nD τ).loc main_arg1)) := by
  unfold_abbrev_sides
  after_reads_simp
  rfl

/-! What the second region finds: the arrays the first stretch made are as it left them. -/

theorem w3_v10 : W3 m ρ c (Proc.devRef .tc main_v10) = W1 m ρ c (Proc.devRef .tc main_v10) :=
  (W3_of m ρ c main_v10 (by decide)).trans (W2_of m ρ c main_v10 (by decide))
theorem w3_v21 : W3 m ρ c (Proc.devRef .tc main_v21) = W1 m ρ c (Proc.devRef .tc main_v21) :=
  (W3_of m ρ c main_v21 (by decide)).trans (W2_of m ρ c main_v21 (by decide))
theorem w3_v32 : W3 m ρ c (Proc.devRef .tc main_v32) = W1 m ρ c (Proc.devRef .tc main_v32) :=
  (W3_of m ρ c main_v32 (by decide)).trans (W2_of m ρ c main_v32 (by decide))
theorem w3_v51 : W3 m ρ c (Proc.devRef .tc main_v51) = W1 m ρ c (Proc.devRef .tc main_v51) :=
  (W3_of m ρ c main_v51 (by decide)).trans (W2_of m ρ c main_v51 (by decide))
theorem w3_v41 : W3 m ρ c (Proc.devRef .tc main_v41) = W1 m ρ c (Proc.devRef .tc main_v41) :=
  (W3_of m ρ c main_v41 (by decide)).trans (W2_of m ρ c main_v41 (by decide))
theorem w3_v55 : W3 m ρ c (Proc.devRef .tc main_v55) = W1 m ρ c (Proc.devRef .tc main_v55) :=
  (W3_of m ρ c main_v55 (by decide)).trans (W2_of m ρ c main_v55 (by decide))
theorem w3_v60 : W3 m ρ c (Proc.devRef .tc main_v60) = coarse1 (m ((c.tc : Thread nD τ).loc main_arg0)) := by
  unfold_abbrev_sides
  after_reads_simp
  rw [W2_of m ρ c main_v0 (by decide), w1_v0]
  rfl
theorem w3_v62 : W3 m ρ c (Proc.devRef .tc main_v62) = fine1 (m ((c.tc : Thread nD τ).loc main_arg1)) := by
  unfold_abbrev_sides
  after_reads_simp
  rw [W2_of m ρ c main_v1 (by decide), w1_v1]
  rfl
/-- The first region's result is as it left it when the last stretch of host operations starts. -/
theorem w4_v59 : W4 m ρ c (Proc.devRef .tc main_v59) = W2 m ρ c (Proc.devRef .tc main_v59) :=
  (W4_of m ρ c main_v59 (by decide)).trans (W3_of m ρ c main_v59 (by decide))
/-- The result array joins the results of the two regions. -/
theorem w5_v66 : W5 m ρ c (Proc.devRef .tc main_v66)
    = joined (W4 m ρ c (Proc.devRef .tc main_v59)) (W4 m ρ c (Proc.devRef .tc main_v63)) := by
  unfold_abbrev_sides
  after_reads_simp [↓fold_tiles6]
  rfl

end Cert.Sage

end
-- ==== Proof.Tile.lean ====
/- The whole output block of the kernel's body, for either of its two launches, in packed coordinates; and the same block
   unpacked, when the weights are the block-diagonal ones the host prepares: the kernel's tile of Proof/Spec.lean. -/
module

public import proofs.«01_k».proof.Proof.Block

@[expose] public section

noncomputable section

namespace Cert.Sage

open Idealize.ShloMosaic Idealize.ShloMosaic.ValueIdx Cert.KernelIdeal Cert.KernelIdeal.Gen
open scoped BigOperators

/-! ## The output block, packed -/

/-- The body's result from its second product's pieces. -/
theorem pay1_apply (v26 v30 v33 v36 v39 : FVec Ideal S128x64x128 .f32) (v40 : FVec Ideal S128x1x128 .f32) (v41 : FVec Ideal S128x63x128 .f32)
    (v56 : Vec Ideal S1x128 .f32) (v64 : Vec Ideal S128x256 .f32) (v98 : Vec Ideal S1x128 .f32) (M : Packed 256)
    (hM : ∀ i w c, k0_pay11 v26 v30 v33 v36 v39 v40 v41 v56 v64 (ix3 i w c) = M i w c) (i : Fin 128) (w : Fin 64) (l : Fin 128) :
    k0_pay1 (k0_pay12 v26 v30 v33 v36 v39 v40 v41 v56 v64) (k0_pay14 v26 v30 v33 v36 v39 v40 v41 v56 v64)
        (k0_pay15 v26 v30 v33 v36 v39 v40 v41 v56 v64) (k0_pay16 v26 v30 v33 v36 v39 v40 v41 v56 v64)
        (k0_pay17 v26 v30 v33 v36 v39 v40 v41 v56 v64) (k0_pay18 v26 v30 v33 v36 v39 v40 v41 v56 v64) k0_pay19 v98 (ix4 0 i w l)
      = mixP M v98 i w l := by
  have h13 : ∀ i w l, k0_pay13 v26 v30 v33 v36 v39 v40 v41 v56 v64 (ix3 i w l) = M i w (hiP l) := fun i w l => by
    unfold k0_pay13; rw [sliceHi, hM]
  have h12 : k0_pay12 v26 v30 v33 v36 v39 v40 v41 v56 v64 (ix3 i w l) = M i w (loP l) := by
    unfold k0_pay12; rw [sliceLo, hM]
  have h14 : k0_pay14 v26 v30 v33 v36 v39 v40 v41 v56 v64 (ix3 i w l) = M (nxt i) w (hiP l) := by
    unfold k0_pay14; rw [rowNext, h13]
  have h15 : k0_pay15 v26 v30 v33 v36 v39 v40 v41 v56 v64 (ix3 i w l) = M (prv i) w (hiP l) := by
    unfold k0_pay15; rw [rowPrev, h13]
  have h16 : ∀ w l, k0_pay16 v26 v30 v33 v36 v39 v40 v41 v56 v64 (ix3 i w l) = M i w (hiP (flip l)) := fun w l => by
    unfold k0_pay16; rw [laneSwap, h13]
  have h17 : k0_pay17 v26 v30 v33 v36 v39 v40 v41 v56 v64 (ix3 i w l) = M i (prvW w) (hiP (flip l)) := by
    unfold k0_pay17; rw [colPrev, h16]
  have h18 : k0_pay18 v26 v30 v33 v36 v39 v40 v41 v56 v64 (ix3 i w l)
      = if l.val < 64 then M i w (hiP (flip l)) else M i (nxtW w) (hiP (flip l)) := by
    unfold k0_pay18; rw [laneSelect, colNext, h16, h16]
  unfold k0_pay1 k0_pay19
  rw [shapeCast_apply _ _ (ix4 0 i w l) (ix3 i w l) (by
    rw [Shape.rowMajor_val_four, Shape.rowMajor_val_three]
    show (i.val * 64 + w.val) * 128 + l.val = ((0 * 128 + i.val) * 64 + w.val) * 128 + l.val
    omega)]
  show max ((_ + ((_ + _) + (_ + _)) * _) + _) _ = _
  rw [laneSelect, bias_apply, h12, h14, h15, h16, h17, h18]
  rw [show (broadcast S128x64x128 (Scalar.ofBits .f32 0x3E800000#32 : Ideal .f32)) (ix3 i w l) = ((1 / 4 : ℝ) : EReal) from quarter_bits,
    show (broadcast S128x64x128 (Scalar.ofBits .f32 0x00000000#32 : Ideal .f32)) (ix3 i w l) = 0 from zero_bits]
  rfl

/-- The first launch's output block from its eight input blocks. -/
theorem out0_apply (x0 : Vec Ideal S1x64x64x128 .f32) (x1 : Vec Ideal S1x128x64x128 .f32) (x2 x3 x4 : Vec Ideal S128x256 .f32)
    (x5 : Vec Ideal S1x128 .f32) (x6 : Vec Ideal S128x256 .f32) (x7 : Vec Ideal S1x128 .f32) (i : Fin 128) (w : Fin 64) (l : Fin 128) :
    out0_8 x0 x1 x2 x3 x4 x5 x6 x7 (ix4 0 i w l) = mixP (prodP2 (mixP (prodP1 x0 x1 x2 x3 x4) x5) x6) x7 i w l := by
  have hz4 : (![0, 0, 0, 0] : Fin 4 → Nat) = fun _ => 0 := funext fun a => by fin_cases a <;> rfl
  have hz2 : (![0, 0] : Fin 2 → Nat) = fun _ => 0 := funext fun a => by fin_cases a <;> rfl
  have l0 : View.ld x0 r0_0 = x0 := View.ld_unit_zero hz4 _ _
  have l1 : View.ld x1 r0_1 = x1 := View.ld_unit_zero hz4 _ _
  have l2 : ∀ x : Vec Ideal S128x256 .f32, View.ld x r0_2 = x := fun x => View.ld_unit_zero hz2 _ _
  have l3 : ∀ x : Vec Ideal S1x128 .f32, View.ld x r0_3 = x := fun x => View.ld_unit_zero hz2 _ _
  unfold out0_8 k0_pay20 k0_pay21 k0_pay22 k0_pay23 k0_pay24 k0_pay25 k0_pay26
  rw [View.canon_unit_zero hz4, l0, l1, l2, l2, l2, l3, l2, l3]
  exact pay1_apply _ _ _ _ _ _ _ _ _ _ _ (pay11_apply _ _ _ _ _ _ _) i w l

/-- The second launch runs the same body. -/
theorem out1_eq (x0 : Vec Ideal S1x64x64x128 .f32) (x1 : Vec Ideal S1x128x64x128 .f32) (x2 x3 x4 : Vec Ideal S128x256 .f32)
    (x5 : Vec Ideal S1x128 .f32) (x6 : Vec Ideal S128x256 .f32) (x7 : Vec Ideal S1x128 .f32) :
    out1_8 x0 x1 x2 x3 x4 x5 x6 x7 = out0_8 x0 x1 x2 x3 x4 x5 x6 x7 := rfl

/-! ## Unpacking -/

/-- The lane that holds channel `k` of column `j`. -/
def pk (j : Fin 128) (k : Fin 64) : Fin 128 := ⟨64 * (j.val % 2) + k.val, by omega⟩

/-- A pair of block-diagonal weights side by side: each 64-channel half of the rows meets its own half of the columns. -/
def bd (Ws Wn : Fin 64 → Fin 64 → EReal) (r : Fin 128) (c : Fin 256) : EReal :=
  if r.val / 64 = c.val / 64 % 2 then
    (if c.val < 128 then Ws else Wn) ⟨r.val % 64, Nat.mod_lt _ (by decide)⟩ ⟨c.val % 64, Nat.mod_lt _ (by decide)⟩
  else 0

/-- A row of lanes against block-diagonal weights is the half's own 64 channels against the plain weights. -/
theorem sum_bd (f : Fin 128 → EReal) (Ws Wn : Fin 64 → Fin 64 → EReal) (j : Fin 128) (o : Fin 64) (t : Bool) :
    ∑ k, f k * bd Ws Wn k (if t then hiP (pk j o) else loP (pk j o)) = ∑ k, f (pk j k) * (if t then Wn else Ws) k o := by
  have hc : ((if t then hiP (pk j o) else loP (pk j o)) : Fin 256).val = (if t then 128 else 0) + (64 * (j.val % 2) + o.val) := by
    cases t <;> simp [hiP, loP, pk]
  generalize (if t then hiP (pk j o) else loP (pk j o) : Fin 256) = c at hc
  have ho : (⟨c.val % 64, Nat.mod_lt _ (by decide)⟩ : Fin 64) = o := by
    apply Fin.ext; show c.val % 64 = o.val; rw [hc]; cases t <;> simp <;> omega
  have hW : (if c.val < 128 then Ws else Wn) = if t then Wn else Ws := by
    rw [hc]; cases t
    · rw [if_pos (by simp; omega)]; rfl
    · rw [if_neg (by simp)]; rfl
  have hpar : c.val / 64 % 2 = j.val % 2 := by rw [hc]; cases t <;> simp <;> omega
  have hb : ∀ r : Fin 128, bd Ws Wn r c = if r.val / 64 = j.val % 2 then (if t then Wn else Ws) ⟨r.val % 64, Nat.mod_lt _ (by decide)⟩ o else 0 :=
    fun r => by unfold bd; rw [ho, hW, hpar]
  have hlo : ∀ k : Fin 64, (⟨(lo k).val % 64, Nat.mod_lt _ (by decide)⟩ : Fin 64) = k := fun k => Fin.ext (by show k.val % 64 = k.val; omega)
  have hhi : ∀ k : Fin 64, (⟨(hi k).val % 64, Nat.mod_lt _ (by decide)⟩ : Fin 64) = k := fun k => Fin.ext (by show (64 + k.val) % 64 = k.val; omega)
  rw [sum_split]
  rcases Nat.mod_two_eq_zero_or_one j.val with hj | hj
  · rw [Finset.sum_congr rfl fun k _ => show f (lo k) * bd Ws Wn (lo k) c = f (pk j k) * (if t then Wn else Ws) k o by
        rw [hb, hj, if_pos (by show k.val / 64 = 0; omega), hlo]
        exact congrArg (fun l => f l * _) (Fin.ext (by show k.val = 64 * (j.val % 2) + k.val; omega)),
      Finset.sum_eq_zero fun k _ => show f (hi k) * bd Ws Wn (hi k) c = 0 by
        rw [hb, hj, if_neg (by show ¬ (64 + k.val) / 64 = 0; omega), mul_zero], add_zero]
  · rw [Finset.sum_congr (s₁ := Finset.univ) (g := fun k => f (pk j k) * (if t then Wn else Ws) k o) rfl
        fun k _ => show f (hi k) * bd Ws Wn (hi k) c = f (pk j k) * (if t then Wn else Ws) k o by
        rw [hb, hj, if_pos (by show (64 + k.val) / 64 = 1; omega), hhi]
        exact congrArg (fun l => f l * _) (Fin.ext (by show 64 + k.val = 64 * (j.val % 2) + k.val; omega)),
      Finset.sum_eq_zero fun k _ => show f (lo k) * bd Ws Wn (lo k) c = 0 by
        rw [hb, hj, if_neg (by show ¬ k.val / 64 = 1; omega), mul_zero], zero_add]

theorem sum_bd_lo (f : Fin 128 → EReal) (Ws Wn : Fin 64 → Fin 64 → EReal) (j : Fin 128) (o : Fin 64) :
    ∑ k, f k * bd Ws Wn k (loP (pk j o)) = ∑ k, f (pk j k) * Ws k o := sum_bd f Ws Wn j o false
theorem sum_bd_hi (f : Fin 128 → EReal) (Ws Wn : Fin 64 → Fin 64 → EReal) (j : Fin 128) (o : Fin 64) :
    ∑ k, f k * bd Ws Wn k (hiP (pk j o)) = ∑ k, f (pk j k) * Wn k o := sum_bd f Ws Wn j o true

/-- The packed stencil unpacked: the neighbours in the column direction are the other half of the lanes, of the same packed
    column or of the one beside it. -/
theorem stnP_apply (v : Packed 128) (i j : Fin 128) (o : Fin 64) :
    stnP v i (half j) (pk j o) = stn (fun i j => v i (half j) (pk j o)) i j := by
  unfold stnP stn
  have e1 : (if (pk j o).val < 64 then v i (half j) (flip (pk j o)) else v i (nxtW (half j)) (flip (pk j o)))
      = v i (half (nxt j)) (pk (nxt j) o) := by
    rcases Nat.mod_two_eq_zero_or_one j.val with hj | hj
    · rw [if_pos (by show 64 * (j.val % 2) + o.val < 64; omega)]
      congr 1
      · exact Fin.ext (by show j.val / 2 = (j.val + 1) % 128 / 2; omega)
      · exact Fin.ext (by show (64 * (j.val % 2) + o.val + 64) % 128 = 64 * ((j.val + 1) % 128 % 2) + o.val; omega)
    · rw [if_neg (by show ¬ 64 * (j.val % 2) + o.val < 64; omega)]
      congr 1
      · exact Fin.ext (by show (j.val / 2 + 1) % 64 = (j.val + 1) % 128 / 2; omega)
      · exact Fin.ext (by show (64 * (j.val % 2) + o.val + 64) % 128 = 64 * ((j.val + 1) % 128 % 2) + o.val; omega)
  have e2 : (if (pk j o).val < 64 then v i (prvW (half j)) (flip (pk j o)) else v i (half j) (flip (pk j o)))
      = v i (half (prv j)) (pk (prv j) o) := by
    rcases Nat.mod_two_eq_zero_or_one j.val with hj | hj
    · rw [if_pos (by show 64 * (j.val % 2) + o.val < 64; omega)]
      congr 1
      · exact Fin.ext (by show (j.val / 2 + 63) % 64 = (j.val + 127) % 128 / 2; omega)
      · exact Fin.ext (by show (64 * (j.val % 2) + o.val + 64) % 128 = 64 * ((j.val + 127) % 128 % 2) + o.val; omega)
    · rw [if_neg (by show ¬ 64 * (j.val % 2) + o.val < 64; omega)]
      congr 1
      · exact Fin.ext (by show j.val / 2 = (j.val + 127) % 128 / 2; omega)
      · exact Fin.ext (by show (64 * (j.val % 2) + o.val + 64) % 128 = 64 * ((j.val + 127) % 128 % 2) + o.val; omega)
  rw [e1, e2]

/-- A packed layer unpacked. -/
theorem mixP_apply (M : Packed 256) (b : Vec Ideal S1x128 .f32) (s n : Grid 64) (b' : Fin 64 → EReal)
    (hs : ∀ i j o, M i (half j) (loP (pk j o)) = s i j o) (hn : ∀ i j o, M i (half j) (hiP (pk j o)) = n i j o)
    (hb : ∀ j o, b (ix2 0 (pk j o)) = b' o) (i j : Fin 128) (o : Fin 64) : mixP M b i (half j) (pk j o) = mix s n b' i j o := by
  unfold mixP mix
  rw [stnP_apply, hs, hb]
  simp only [hn]

/-- **The body's output block is the kernel's tile**, when its weight blocks are the packed ones. -/
theorem block_eq_kerTile (x0 : Vec Ideal S1x64x64x128 .f32) (x1 : Vec Ideal S1x128x64x128 .f32) (x2 x3 x4 : Vec Ideal S128x256 .f32)
    (x5 : Vec Ideal S1x128 .f32) (x6 : Vec Ideal S128x256 .f32) (x7 : Vec Ideal S1x128 .f32)
    (W : Fin 128 → Fin 64 → Fin 2 → Fin 2 → EReal) (bup : Fin 64 → EReal) (Ws1 Wn1 : Fin 128 → Fin 64 → EReal) (b1 : Fin 64 → EReal)
    (Ws2 Wn2 : Fin 64 → Fin 64 → EReal) (b2 : Fin 64 → EReal)
    (h2 : ∀ c i j k, x2 (ix2 c (upCol i (pk j k))) = W c k (par i) (par j))
    (h3 : ∀ r c, x3 (ix2 r c) = bd (fun k => Ws1 (lo k)) (fun k => Wn1 (lo k)) r c)
    (h4 : ∀ r c, x4 (ix2 r c) = bd (fun k => Ws1 (hi k)) (fun k => Wn1 (hi k)) r c)
    (h5 : ∀ j o, x5 (ix2 0 (pk j o)) = bias1 bup Ws1 Wn1 b1 o)
    (h6 : ∀ r c, x6 (ix2 r c) = bd Ws2 Wn2 r c)
    (h7 : ∀ j o, x7 (ix2 0 (pk j o)) = b2 o) (i j : Fin 128) (o : Fin 64) :
    mixP (prodP2 (mixP (prodP1 x0 x1 x2 x3 x4) x5) x6) x7 i (half j) (pk j o)
      = kerTile (fun i w c => x0 (ix4 0 i w c)) (fun i j k => x1 (ix4 0 i (half j) (pk j k))) W bup Ws1 Wn1 b1 Ws2 Wn2 b2 i j o := by
  have hu : ∀ i j k, upP x0 x2 i (half j) (pk j k) = upv (fun i w c => x0 (ix4 0 i w c)) W i j k := fun i j k => by
    unfold upP upv; simp only [h2]
  unfold kerTile
  refine mixP_apply _ _ _ _ _ ?_ ?_ h7 i j o
  · intro i j o
    unfold prodP2 prod2
    simp only [h6]
    rw [sum_bd_lo]
    refine Finset.sum_congr rfl fun k _ => congrArg (· * _) ?_
    refine mixP_apply _ _ _ _ _ ?_ ?_ h5 i j k
    · intro i j o; unfold prodP1 prod1; simp only [h3, h4]; rw [sum_bd_lo, sum_bd_lo]; simp only [hu]
    · intro i j o; unfold prodP1 prod1; simp only [h3, h4]; rw [sum_bd_hi, sum_bd_hi]; simp only [hu]
  · intro i j o
    unfold prodP2 prod2
    simp only [h6]
    rw [sum_bd_hi]
    refine Finset.sum_congr rfl fun k _ => congrArg (· * _) ?_
    refine mixP_apply _ _ _ _ _ ?_ ?_ h5 i j k
    · intro i j o; unfold prodP1 prod1; simp only [h3, h4]; rw [sum_bd_lo, sum_bd_lo]; simp only [hu]
    · intro i j o; unfold prodP1 prod1; simp only [h3, h4]; rw [sum_bd_hi, sum_bd_hi]; simp only [hu]

end Cert.Sage

end
-- ==== Proof.HostValue.lean ====
/- The arrays the host operations make, read at an index. -/
module

public import proofs.«01_k».proof.Proof.HostRun
public import proofs.«01_k».proof.Proof.Tile

@[expose] public section

noncomputable section

namespace Cert.Sage

open Idealize.ShloMosaic Idealize.ShloMosaic.ValueIdx Cert.KernelIdeal Cert.KernelIdeal.Gen
open scoped BigOperators

theorem zero64_apply (i : S64x64.Idx) : zero64 i = 0 := by
  show Ideal.ofBits .f32 0x00000000#32 = 0
  exact zero_bits

theorem beside_left (a b : Vec Ideal S64x64 .f32) (r : Fin 64) (c : Fin 128) (h : c.val < 64) :
    beside a b (ix2 r c) = a (ix2 r ⟨c.val, h⟩) :=
  concatenate_pair_apply_left (t := S64x128) (s₁ := S64x64) (s₂ := S64x64) 1 _ _ _ (ix2 r c) rfl (ix2 r ⟨c.val, h⟩)
    (by intro b; fin_cases b <;> rfl)
theorem beside_right (a b : Vec Ideal S64x64 .f32) (r : Fin 64) (c : Fin 128) (h : ¬ c.val < 64) :
    beside a b (ix2 r c) = b (ix2 r ⟨c.val - 64, by omega⟩) :=
  concatenate_pair_apply_right (t := S64x128) (s₁ := S64x64) (s₂ := S64x64) 1 _ _ _ (ix2 r c) rfl rfl (ix2 r ⟨c.val - 64, by omega⟩)
    (by intro b hb; fin_cases b <;> first | rfl | exact absurd rfl hb) (by show (c.val - 64) + 64 = c.val; omega)
theorem under_top (a b : Vec Ideal S64x128 .f32) (r c : Fin 128) (h : r.val < 64) :
    under a b (ix2 r c) = a (ix2 ⟨r.val, h⟩ c) :=
  concatenate_pair_apply_left (t := S128x128) (s₁ := S64x128) (s₂ := S64x128) 0 _ _ _ (ix2 r c) rfl (ix2 ⟨r.val, h⟩ c)
    (by intro b; fin_cases b <;> rfl)
theorem under_bot (a b : Vec Ideal S64x128 .f32) (r c : Fin 128) (h : ¬ r.val < 64) :
    under a b (ix2 r c) = b (ix2 ⟨r.val - 64, by omega⟩ c) :=
  concatenate_pair_apply_right (t := S128x128) (s₁ := S64x128) (s₂ := S64x128) 0 _ _ _ (ix2 r c) rfl rfl (ix2 ⟨r.val - 64, by omega⟩ c)
    (by intro b hb; fin_cases b <;> first | rfl | exact absurd rfl hb) (by show (r.val - 64) + 64 = r.val; omega)
theorem beside2_left (a b : Vec Ideal S128x128 .f32) (r : Fin 128) (c : Fin 256) (h : c.val < 128) :
    beside2 a b (ix2 r c) = a (ix2 r ⟨c.val, h⟩) :=
  concatenate_pair_apply_left (t := S128x256) (s₁ := S128x128) (s₂ := S128x128) 1 _ _ _ (ix2 r c) rfl (ix2 r ⟨c.val, h⟩)
    (by intro b; fin_cases b <;> rfl)
theorem beside2_right (a b : Vec Ideal S128x128 .f32) (r : Fin 128) (c : Fin 256) (h : ¬ c.val < 128) :
    beside2 a b (ix2 r c) = b (ix2 r ⟨c.val - 128, by omega⟩) :=
  concatenate_pair_apply_right (t := S128x256) (s₁ := S128x128) (s₂ := S128x128) 1 _ _ _ (ix2 r c) rfl rfl (ix2 r ⟨c.val - 128, by omega⟩)
    (by intro b hb; fin_cases b <;> first | rfl | exact absurd rfl hb) (by show (c.val - 128) + 128 = c.val; omega)

/-- The block-diagonal matrix at an index: the matrix's own entry inside a diagonal block, zero outside. -/
theorem diag_apply (W : Vec Ideal S64x64 .f32) (r c : Fin 128) : diag W (ix2 r c)
    = if r.val / 64 = c.val / 64 then W (ix2 ⟨r.val % 64, Nat.mod_lt _ (by decide)⟩ ⟨c.val % 64, Nat.mod_lt _ (by decide)⟩) else 0 := by
  unfold diag
  by_cases hr : r.val < 64 <;> by_cases hc : c.val < 64
  · rw [under_top _ _ r c hr, beside_left _ _ _ c hc, if_pos (by omega)]
    exact congrArg₂ (fun a b => W (ix2 a b)) (Fin.ext (by show r.val = r.val % 64; omega)) (Fin.ext (by show c.val = c.val % 64; omega))
  · rw [under_top _ _ r c hr, beside_right _ _ _ c hc, if_neg (by omega), zero64_apply]
  · rw [under_bot _ _ r c hr, beside_left _ _ _ c hc, if_neg (by omega), zero64_apply]
  · rw [under_bot _ _ r c hr, beside_right _ _ _ c hc, if_pos (by omega)]
    exact congrArg₂ (fun a b => W (ix2 a b)) (Fin.ext (by show r.val - 64 = r.val % 64; omega)) (Fin.ext (by show c.val - 64 = c.val % 64; omega))

/-- Two block-diagonal matrices side by side, at an index. -/
theorem diag2_apply (Ws Wn : Vec Ideal S64x64 .f32) (r : Fin 128) (c : Fin 256) :
    diag2 Ws Wn (ix2 r c) = bd (fun k o => Ws (ix2 k o)) (fun k o => Wn (ix2 k o)) r c := by
  unfold diag2 bd
  by_cases hc : c.val < 128
  · rw [beside2_left _ _ r c hc, diag_apply, if_pos hc]
    exact if_congr (by show _ = c.val / 64 ↔ _; omega) rfl rfl
  · rw [beside2_right _ _ r c hc, diag_apply, if_neg hc]
    refine if_congr (by show _ = (c.val - 128) / 64 ↔ _; omega) ?_ rfl
    exact congrArg (fun b => Wn (ix2 _ b)) (Fin.ext (by show (c.val - 128) % 64 = c.val % 64; omega))

theorem topHalf_apply (W : Vec Ideal S128x64 .f32) (k o : Fin 64) : topHalf W (ix2 k o) = W (ix2 (lo k) o) :=
  extractStridedSlice_apply _ _ _ _ _ (by intro a; fin_cases a <;> (show _ = 0 + _; simp [lo]))
theorem botHalf_apply (W : Vec Ideal S128x64 .f32) (k o : Fin 64) : botHalf W (ix2 k o) = W (ix2 (hi k) o) :=
  extractStridedSlice_apply _ _ _ _ _ (by
    intro a; fin_cases a
    · show 64 + k.val = 64 + k.val; rfl
    · show o.val = 0 + o.val; omega)

/-- The doubled bias holds entry `o` in each half's lane `o`. -/
theorem twice_apply (b : Vec Ideal S64 .f32) (j : Fin 128) (o : Fin 64) : twice b (ix2 0 (pk j o)) = b (ix1 o) := by
  unfold twice
  rw [shapeCast_apply (t := S1x128) _ _ (ix2 0 (pk j o)) (ix1 (pk j o)) (by rw [Shape.rowMajor_val_two, Shape.rowMajor_val_one]; show (pk j o).val = 0 * 128 + (pk j o).val; omega),
    shapeCast_apply (t := S128) (s := S2x64) _ _ (ix1 (pk j o)) (ix2 (par j) o) (by
      rw [Shape.rowMajor_val_two, Shape.rowMajor_val_one]; show (j.val % 2) * 64 + o.val = 64 * (j.val % 2) + o.val; omega),
    broadcastInDim_apply _ _ _ (ix2 (par j) o) (ix2 0 o) (by intro a; fin_cases a <;> rfl),
    shapeCast_apply (t := S1x64) (s := S64) _ _ (ix2 0 o) (ix1 o) (by
      rw [Shape.rowMajor_val_two, Shape.rowMajor_val_one]; show o.val = 0 * 64 + o.val; omega)]

theorem vecMat_apply (v : FVec Ideal S64 .f32) (W : FVec Ideal S64x64 .f32) (o : Fin 64) :
    vecMat v W (ix1 o) = ∑ k : Fin 64, v (ix1 k) * W (ix2 k o) := by
  unfold vecMat
  simp only [Host.dotGeneral]
  rw [Ideal.dotGeneral_apply, ← Equiv.sum_comp (contrEquiv1 dot_S64_S64x64_S64_0_0_n_1_n_n 64 rfl rfl).symm]
  refine Finset.sum_congr rfl fun k _ => ?_
  have hk := contrEquiv1_symm_val dot_S64_S64x64_S64_0_0_n_1_n_n 64 rfl rfl k
  refine congrArg₂ (· * ·) (congrArg v ?_) (congrArg W ?_)
  · funext a; fin_cases a; exact Fin.ext hk
  · funext a; fin_cases a
    · exact Fin.ext hk
    · rfl

theorem foldBias_apply (bup : Vec Ideal S64 .f32) (Ws Wn : Vec Ideal S128x64 .f32) (b : Vec Ideal S64 .f32) (o : Fin 64) :
    foldBias bup Ws Wn b (ix1 o)
      = bias1 (fun k => bup (ix1 k)) (fun k o => Ws (ix2 k o)) (fun k o => Wn (ix2 k o)) (fun o => b (ix1 o)) o := by
  show (b (ix1 o) + vecMat bup (botHalf Ws) (ix1 o)) + vecMat bup (botHalf Wn) (ix1 o) = _
  rw [vecMat_apply, vecMat_apply]
  simp only [botHalf_apply]
  rfl

/-- Four matrices side by side at an index of the `n`-th. -/
theorem beside4_apply (f : Fin 4 → Vec Ideal S128x64 .f32) (n : Fin 4) (r : Fin 128) (k : Fin 64) (c : Fin 256)
    (hc : c.val = n.val * 64 + k.val) : beside4 (f 0) (f 1) (f 2) (f 3) (ix2 r c) = f n (ix2 r k) := by
  have hk := k.isLt
  have hb : ∀ b : Fin S128x64.rank, b.cast (rfl : S128x64.rank = S128x256.rank) ≠ 1 → ((ix2 r k : S128x64.Idx) b).val = ((ix2 r c : S128x256.Idx) (b.cast rfl)).val := by
    intro b hb; fin_cases b <;> first | rfl | exact absurd rfl hb
  unfold beside4
  fin_cases n
  · exact concatenate_apply_piece (t := S128x256) 1 _ _ (ix2 r c) 0 (by simp) S128x64 (f 0) rfl rfl 0 rfl (ix2 r k) hb
      (by show 0 + k.val = c.val; rw [hc]; show 0 + k.val = 0 * 64 + k.val; omega)
  · exact concatenate_apply_piece (t := S128x256) 1 _ _ (ix2 r c) 1 (by simp) S128x64 (f 1) rfl rfl 64 rfl (ix2 r k) hb
      (by show 64 + k.val = c.val; rw [hc]; show 64 + k.val = 1 * 64 + k.val; omega)
  · exact concatenate_apply_piece (t := S128x256) 1 _ _ (ix2 r c) 2 (by simp) S128x64 (f 2) rfl rfl 128 rfl (ix2 r k) hb
      (by show 128 + k.val = c.val; rw [hc]; show 128 + k.val = 2 * 64 + k.val; omega)
  · exact concatenate_apply_piece (t := S128x256) 1 _ _ (ix2 r c) 3 (by simp) S128x64 (f 3) rfl rfl 192 rfl (ix2 r k) hb
      (by show 192 + k.val = c.val; rw [hc]; show 192 + k.val = 3 * 64 + k.val; omega)

/-- The taps at the column of an output parity: that parity's tap. -/
theorem taps_apply (W : Vec Ideal S128x64x2x2 .f32) (c i j : Fin 128) (k : Fin 64) :
    taps W (ix2 c (upCol i (pk j k))) = W (ix4 c k (par i) (par j)) := by
  have ht : ∀ (p q : Fin 2) (h : S128x64x2x2.Slices ![0, 0, p.val, q.val] S128x64x1x1),
      tap (extractStridedSlice S128x64x1x1 ![0, 0, p.val, q.val] W h) (ix2 c k) = W (ix4 c k p q) := fun p q h => by
    unfold tap
    rw [shapeCast_apply (t := S128x64) (s := S128x64x1x1) _ _ (ix2 c k) (ix4 c k 0 0) (by
      rw [Shape.rowMajor_val_two, Shape.rowMajor_val_four]
      show ((c.val * 64 + k.val) * 1 + 0) * 1 + 0 = c.val * 64 + k.val; omega)]
    refine extractStridedSlice_apply _ _ _ _ _ ?_
    intro a; fin_cases a
    · show c.val = 0 + c.val; omega
    · show k.val = 0 + k.val; omega
    · show p.val = p.val + 0; omega
    · show q.val = q.val + 0; omega
  have hcol : ∀ (n : Fin 4), n.val = 2 * (i.val % 2) + j.val % 2 → (upCol i (pk j k)).val = n.val * 64 + k.val := fun n hn => by
    show i.val % 2 * 128 + (64 * (j.val % 2) + k.val) = n.val * 64 + k.val; omega
  unfold taps
  rcases Nat.mod_two_eq_zero_or_one i.val with hi | hi <;> rcases Nat.mod_two_eq_zero_or_one j.val with hj | hj
  · have e1 : par i = 0 := Fin.ext hi
    have e2 : par j = 0 := Fin.ext hj
    rw [e1, e2]
    exact (beside4_apply ![_, _, _, _] 0 c k _ (hcol 0 (by rw [hi, hj]; rfl))).trans (ht 0 0 slices_S128x64x2x2_S128x64x1x1_0_0_0_0)
  · have e1 : par i = 0 := Fin.ext hi
    have e2 : par j = 1 := Fin.ext hj
    rw [e1, e2]
    exact (beside4_apply ![_, _, _, _] 1 c k _ (hcol 1 (by rw [hi, hj]; rfl))).trans (ht 0 1 slices_S128x64x2x2_S128x64x1x1_0_0_0_1)
  · have e1 : par i = 1 := Fin.ext hi
    have e2 : par j = 0 := Fin.ext hj
    rw [e1, e2]
    exact (beside4_apply ![_, _, _, _] 2 c k _ (hcol 2 (by rw [hi, hj]; rfl))).trans (ht 1 0 slices_S128x64x2x2_S128x64x1x1_0_0_1_0)
  · have e1 : par i = 1 := Fin.ext hi
    have e2 : par j = 1 := Fin.ext hj
    rw [e1, e2]
    exact (beside4_apply ![_, _, _, _] 3 c k _ (hcol 3 (by rw [hi, hj]; rfl))).trans (ht 1 1 slices_S128x64x2x2_S128x64x1x1_0_0_1_1)

/-- Tile `g` of the first three, or of the last three. -/
def tile0 (g : Fin 3) : Fin 6 := ⟨g.val, by omega⟩
def tile1 (g : Fin 3) : Fin 6 := ⟨3 + g.val, by omega⟩

theorem coarse_apply (x : Vec Ideal S1x6x64x64x128 .f32) (t : Fin 6) (i w : Fin 64) (c : Fin 128) :
    coarse x (ix4 t i w c) = x (ix5 0 t i w c) :=
  shapeCast_apply (t := S6x64x64x128) (s := S1x6x64x64x128) _ _ (ix4 t i w c) (ix5 0 t i w c) (by
    rw [Shape.rowMajor_val_five, Shape.rowMajor_val_four]
    show (((0 * 6 + t.val) * 64 + i.val) * 64 + w.val) * 128 + c.val = ((t.val * 64 + i.val) * 64 + w.val) * 128 + c.val; omega)
theorem fine_apply (x : Vec Ideal S1x6x128x128x64 .f32) (t : Fin 6) (i j : Fin 128) (k : Fin 64) :
    fine x (ix4 t i j k) = x (ix5 0 t i j k) :=
  shapeCast_apply (t := S6x128x128x64) (s := S1x6x128x128x64) _ _ (ix4 t i j k) (ix5 0 t i j k) (by
    rw [Shape.rowMajor_val_five, Shape.rowMajor_val_four]
    show (((0 * 6 + t.val) * 128 + i.val) * 128 + j.val) * 64 + k.val = ((t.val * 128 + i.val) * 128 + j.val) * 64 + k.val; omega)
theorem coarse0_apply (x : Vec Ideal S1x6x64x64x128 .f32) (g : Fin 3) (i w : Fin 64) (c : Fin 128) :
    coarse0 x (ix4 g i w c) = x (ix5 0 (tile0 g) i w c) :=
  (extractStridedSlice_apply _ _ _ _ (ix4 (tile0 g) i w c) (by
    intro a; fin_cases a
    · show g.val = 0 + g.val; omega
    · show i.val = 0 + i.val; omega
    · show w.val = 0 + w.val; omega
    · show c.val = 0 + c.val; omega)).trans (coarse_apply x _ i w c)
theorem coarse1_apply (x : Vec Ideal S1x6x64x64x128 .f32) (g : Fin 3) (i w : Fin 64) (c : Fin 128) :
    coarse1 x (ix4 g i w c) = x (ix5 0 (tile1 g) i w c) :=
  (extractStridedSlice_apply _ _ _ _ (ix4 (tile1 g) i w c) (by
    intro a; fin_cases a
    · show 3 + g.val = 3 + g.val; omega
    · show i.val = 0 + i.val; omega
    · show w.val = 0 + w.val; omega
    · show c.val = 0 + c.val; omega)).trans (coarse_apply x _ i w c)

/-- A packed position and the plain one it holds have the same place in row-major order. -/
theorem packed_pos (g : Fin 3) (i j : Fin 128) (k : Fin 64) :
    (S3x128x128x64.rowMajor (ix4 g i j k)).val = (S3x128x64x128.rowMajor (ix4 g i (half j) (pk j k))).val := by
  rw [Shape.rowMajor_val_four, Shape.rowMajor_val_four]
  show ((g.val * 128 + i.val) * 128 + j.val) * 64 + k.val = ((g.val * 128 + i.val) * 64 + j.val / 2) * 128 + (64 * (j.val % 2) + k.val)
  omega
theorem fine0_apply (x : Vec Ideal S1x6x128x128x64 .f32) (g : Fin 3) (i j : Fin 128) (k : Fin 64) :
    fine0 x (ix4 g i (half j) (pk j k)) = x (ix5 0 (tile0 g) i j k) := by
  unfold fine0
  rw [shapeCast_apply (t := S3x128x64x128) (s := S3x128x128x64) _ _ (ix4 g i (half j) (pk j k)) (ix4 g i j k) (packed_pos g i j k)]
  exact (extractStridedSlice_apply _ _ _ _ (ix4 (tile0 g) i j k) (by
    intro a; fin_cases a
    · show g.val = 0 + g.val; omega
    · show i.val = 0 + i.val; omega
    · show j.val = 0 + j.val; omega
    · show k.val = 0 + k.val; omega)).trans (fine_apply x _ i j k)
theorem fine1_apply (x : Vec Ideal S1x6x128x128x64 .f32) (g : Fin 3) (i j : Fin 128) (k : Fin 64) :
    fine1 x (ix4 g i (half j) (pk j k)) = x (ix5 0 (tile1 g) i j k) := by
  unfold fine1
  rw [shapeCast_apply (t := S3x128x64x128) (s := S3x128x128x64) _ _ (ix4 g i (half j) (pk j k)) (ix4 g i j k) (packed_pos g i j k)]
  exact (extractStridedSlice_apply _ _ _ _ (ix4 (tile1 g) i j k) (by
    intro a; fin_cases a
    · show 3 + g.val = 3 + g.val; omega
    · show i.val = 0 + i.val; omega
    · show j.val = 0 + j.val; omega
    · show k.val = 0 + k.val; omega)).trans (fine_apply x _ i j k)

theorem unpacked (a : Vec Ideal S3x128x64x128 .f32) (h) (g : Fin 3) (i j : Fin 128) (k : Fin 64) :
    shapeCast S1x3x128x128x64 a h (ix5 0 g i j k) = a (ix4 g i (half j) (pk j k)) :=
  shapeCast_apply (t := S1x3x128x128x64) (s := S3x128x64x128) _ _ _ _ (by
    rw [← packed_pos, Shape.rowMajor_val_five, Shape.rowMajor_val_four]
    show ((g.val * 128 + i.val) * 128 + j.val) * 64 + k.val = (((0 * 3 + g.val) * 128 + i.val) * 128 + j.val) * 64 + k.val; omega)
/-- The joined result at a tile of the first three, and of the last three. -/
theorem joined_apply0 (a b : Vec Ideal S3x128x64x128 .f32) (g : Fin 3) (i j : Fin 128) (k : Fin 64) :
    joined a b (ix5 0 (tile0 g) i j k) = a (ix4 g i (half j) (pk j k)) :=
  (concatenate_pair_apply_left (t := S1x6x128x128x64) (s₁ := S1x3x128x128x64) (s₂ := S1x3x128x128x64) 1
    (shapeCast S1x3x128x128x64 a shapeCasts_S3x128x64x128_S1x3x128x128x64) (shapeCast S1x3x128x128x64 b shapeCasts_S3x128x64x128_S1x3x128x128x64)
    concatenates_S1x3x128x128x64_S1x3x128x128x64_S1x6x128x128x64_d1 (ix5 0 (tile0 g) i j k) rfl
    (ix5 0 g i j k) (by intro b; fin_cases b <;> rfl)).trans (unpacked a _ g i j k)
theorem joined_apply1 (a b : Vec Ideal S3x128x64x128 .f32) (g : Fin 3) (i j : Fin 128) (k : Fin 64) :
    joined a b (ix5 0 (tile1 g) i j k) = b (ix4 g i (half j) (pk j k)) :=
  (concatenate_pair_apply_right (t := S1x6x128x128x64) (s₁ := S1x3x128x128x64) (s₂ := S1x3x128x128x64) 1
    (shapeCast S1x3x128x128x64 a shapeCasts_S3x128x64x128_S1x3x128x128x64) (shapeCast S1x3x128x128x64 b shapeCasts_S3x128x64x128_S1x3x128x128x64)
    concatenates_S1x3x128x128x64_S1x3x128x128x64_S1x6x128x128x64_d1 (ix5 0 (tile1 g) i j k) rfl rfl
    (ix5 0 g i j k) (by intro b hb; fin_cases b <;> first | rfl | exact absurd rfl hb) (by show g.val + 3 = 3 + g.val; omega)).trans (unpacked b _ g i j k)

end Cert.Sage

end
-- ==== Proof.Region.lean ====
/- What the two regions leave in their result arrays: the grid has one point per tile, point `g` reads tile `g` of the two
   feature arrays and the whole of every other array, and writes tile `g` of the result. -/
module

public import proofs.«01_k».proof.Proof.Tile
public import proofs.«01_k».proof.Proof.Gen.KernelIdeal.Frame
public import Idealize.ShloMosaic.Lib.Pipeline.ValueKit

@[expose] public section

noncomputable section

namespace Cert.Sage

open Idealize.ShloMosaic hiding ix2 ix3 ix4
open Idealize.ShloMosaic.ValueIdx Cert.KernelIdeal Cert.KernelIdeal.Gen Idealize.SL.Sem

/-- Tile `g` of the coarse features. -/
def tileA (a : Vec Ideal S3x64x64x128 .f32) (g : Fin 3) : Vec Ideal S1x64x64x128 .f32 := fun k => a (ix4 g (k 1) (k 2) (k 3))

/-- Tile `g` of the fine features (columns packed in pairs). -/
def tileB (b : Vec Ideal S3x128x64x128 .f32) (g : Fin 3) : Vec Ideal S1x128x64x128 .f32 := fun k => b (ix4 g (k 1) (k 2) (k 3))

/-- What a region leaves at an index of its result array: the block computation of that tile, at the position inside it. -/
def regionVal (a : Vec Ideal S3x64x64x128 .f32) (b : Vec Ideal S3x128x64x128 .f32) (x2 x3 x4 : Vec Ideal S128x256 .f32)
    (x5 : Vec Ideal S1x128 .f32) (x6 : Vec Ideal S128x256 .f32) (x7 : Vec Ideal S1x128 .f32) : Vec Ideal S3x128x64x128 .f32 :=
  fun i => mixP (prodP2 (mixP (prodP1 (tileA a (i 0)) (tileB b (i 0)) x2 x3 x4) x5) x6) x7 (i 1) (i 2) (i 3)

variable (V : (c : Dev nD) → (b : Ref sig .tc) → Buf (Elt Ideal) ((c.tc : Thread nD τ).loc b)) (c : Dev nD)

/-! ## The first region -/

theorem idx0_0 : ∀ t : Fin grid0.N, win0_0.index t = ![(grid0.coords t 0).val, 0, 0, 0] := by decide +kernel
theorem idx0_1 : ∀ t : Fin grid0.N, win0_1.index t = ![(grid0.coords t 0).val, 0, 0, 0] := by decide +kernel
theorem idx0_2 : ∀ t : Fin grid0.N, win0_2.index t = ![0, 0] := by decide +kernel
theorem idx0_3 : ∀ t : Fin grid0.N, win0_3.index t = ![0, 0] := by decide +kernel
theorem idx0_4 : ∀ t : Fin grid0.N, win0_4.index t = ![0, 0] := by decide +kernel
theorem idx0_5 : ∀ t : Fin grid0.N, win0_5.index t = ![0, 0] := by decide +kernel
theorem idx0_6 : ∀ t : Fin grid0.N, win0_6.index t = ![0, 0] := by decide +kernel
theorem idx0_7 : ∀ t : Fin grid0.N, win0_7.index t = ![0, 0] := by decide +kernel
theorem idx0_8 : ∀ t : Fin grid0.N, win0_8.index t = ![(grid0.coords t 0).val, 0, 0, 0] := by decide +kernel

/-- Input 0 of the first region at a point: the tile of that point. -/
theorem blk0_0 (t : Fin cfg0.N) : iblk0 V c 0 t = tileA (V c main_v56) (grid0.coords t 0) := by
  funext k
  blk_simp [iblk0]
  unfold tileA
  refine congrArg (V c main_v56) ?_
  blk_ext [idx0_0]
/-- Input 1 of the first region at a point: the tile of that point. -/
theorem blk0_1 (t : Fin cfg0.N) : iblk0 V c 1 t = tileB (V c main_v58) (grid0.coords t 0) := by
  funext k
  blk_simp [iblk0]
  unfold tileB
  refine congrArg (V c main_v58) ?_
  blk_ext [idx0_1]
/-- Input 2 of the first region at a point: the whole array. -/
theorem blk0_2 (t : Fin cfg0.N) : iblk0 V c 2 t = V c main_v10 := by
  funext k
  blk_simp [iblk0]
  refine congrArg (V c main_v10) ?_
  blk_ext [idx0_2]
/-- Input 3 of the first region at a point: the whole array. -/
theorem blk0_3 (t : Fin cfg0.N) : iblk0 V c 3 t = V c main_v21 := by
  funext k
  blk_simp [iblk0]
  refine congrArg (V c main_v21) ?_
  blk_ext [idx0_3]
/-- Input 4 of the first region at a point: the whole array. -/
theorem blk0_4 (t : Fin cfg0.N) : iblk0 V c 4 t = V c main_v32 := by
  funext k
  blk_simp [iblk0]
  refine congrArg (V c main_v32) ?_
  blk_ext [idx0_4]
/-- Input 5 of the first region at a point: the whole array. -/
theorem blk0_5 (t : Fin cfg0.N) : iblk0 V c 5 t = V c main_v51 := by
  funext k
  blk_simp [iblk0]
  refine congrArg (V c main_v51) ?_
  blk_ext [idx0_5]
/-- Input 6 of the first region at a point: the whole array. -/
theorem blk0_6 (t : Fin cfg0.N) : iblk0 V c 6 t = V c main_v41 := by
  funext k
  blk_simp [iblk0]
  refine congrArg (V c main_v41) ?_
  blk_ext [idx0_6]
/-- Input 7 of the first region at a point: the whole array. -/
theorem blk0_7 (t : Fin cfg0.N) : iblk0 V c 7 t = V c main_v55 := by
  funext k
  blk_simp [iblk0]
  refine congrArg (V c main_v55) ?_
  blk_ext [idx0_7]

/-- The result array of the first region after the run, as a function of its input arrays. -/
theorem region0_value : (dat0 V c).arrAt 8 cfg0.N
    = regionVal (V c main_v56) (V c main_v58) (V c main_v10) (V c main_v21) (V c main_v32) (V c main_v51) (V c main_v41) (V c main_v55) := by
  refine (dat0 V c).arrAt_eq_of_covers 8 _ (by decide +kernel) fun t hf y => ?_
  blk_simp
  rw [after0_8, blk0_0, blk0_1, blk0_2, blk0_3, blk0_4, blk0_5, blk0_6, blk0_7]
  have hy : y = ix4 0 (y 1) (y 2) (y 3) := by blk_ext []
  have he : (win0_8.blk t).view.emb y = ix4 (grid0.coords t 0) (y 1) (y 2) (y 3) := by blk_ext [idx0_8]
  rw [he]
  refine (congrArg _ hy).trans ?_
  exact out0_apply _ _ _ _ _ _ _ _ _ _ _

/-! ## The second region -/

theorem idx1_0 : ∀ t : Fin grid1.N, win1_0.index t = ![(grid1.coords t 0).val, 0, 0, 0] := by decide +kernel
theorem idx1_1 : ∀ t : Fin grid1.N, win1_1.index t = ![(grid1.coords t 0).val, 0, 0, 0] := by decide +kernel
theorem idx1_2 : ∀ t : Fin grid1.N, win1_2.index t = ![0, 0] := by decide +kernel
theorem idx1_3 : ∀ t : Fin grid1.N, win1_3.index t = ![0, 0] := by decide +kernel
theorem idx1_4 : ∀ t : Fin grid1.N, win1_4.index t = ![0, 0] := by decide +kernel
theorem idx1_5 : ∀ t : Fin grid1.N, win1_5.index t = ![0, 0] := by decide +kernel
theorem idx1_6 : ∀ t : Fin grid1.N, win1_6.index t = ![0, 0] := by decide +kernel
theorem idx1_7 : ∀ t : Fin grid1.N, win1_7.index t = ![0, 0] := by decide +kernel
theorem idx1_8 : ∀ t : Fin grid1.N, win1_8.index t = ![(grid1.coords t 0).val, 0, 0, 0] := by decide +kernel

/-- Input 0 of the second region at a point: the tile of that point. -/
theorem blk1_0 (t : Fin cfg1.N) : iblk1 V c 0 t = tileA (V c main_v60) (grid1.coords t 0) := by
  funext k
  blk_simp [iblk1]
  unfold tileA
  refine congrArg (V c main_v60) ?_
  blk_ext [idx1_0]
/-- Input 1 of the second region at a point: the tile of that point. -/
theorem blk1_1 (t : Fin cfg1.N) : iblk1 V c 1 t = tileB (V c main_v62) (grid1.coords t 0) := by
  funext k
  blk_simp [iblk1]
  unfold tileB
  refine congrArg (V c main_v62) ?_
  blk_ext [idx1_1]
/-- Input 2 of the second region at a point: the whole array. -/
theorem blk1_2 (t : Fin cfg1.N) : iblk1 V c 2 t = V c main_v10 := by
  funext k
  blk_simp [iblk1]
  refine congrArg (V c main_v10) ?_
  blk_ext [idx1_2]
/-- Input 3 of the second region at a point: the whole array. -/
theorem blk1_3 (t : Fin cfg1.N) : iblk1 V c 3 t = V c main_v21 := by
  funext k
  blk_simp [iblk1]
  refine congrArg (V c main_v21) ?_
  blk_ext [idx1_3]
/-- Input 4 of the second region at a point: the whole array. -/
theorem blk1_4 (t : Fin cfg1.N) : iblk1 V c 4 t = V c main_v32 := by
  funext k
  blk_simp [iblk1]
  refine congrArg (V c main_v32) ?_
  blk_ext [idx1_4]
/-- Input 5 of the second region at a point: the whole array. -/
theorem blk1_5 (t : Fin cfg1.N) : iblk1 V c 5 t = V c main_v51 := by
  funext k
  blk_simp [iblk1]
  refine congrArg (V c main_v51) ?_
  blk_ext [idx1_5]
/-- Input 6 of the second region at a point: the whole array. -/
theorem blk1_6 (t : Fin cfg1.N) : iblk1 V c 6 t = V c main_v41 := by
  funext k
  blk_simp [iblk1]
  refine congrArg (V c main_v41) ?_
  blk_ext [idx1_6]
/-- Input 7 of the second region at a point: the whole array. -/
theorem blk1_7 (t : Fin cfg1.N) : iblk1 V c 7 t = V c main_v55 := by
  funext k
  blk_simp [iblk1]
  refine congrArg (V c main_v55) ?_
  blk_ext [idx1_7]

/-- The result array of the second region after the run, as a function of its input arrays. -/
theorem region1_value : (dat1 V c).arrAt 8 cfg1.N
    = regionVal (V c main_v60) (V c main_v62) (V c main_v10) (V c main_v21) (V c main_v32) (V c main_v51) (V c main_v41) (V c main_v55) := by
  refine (dat1 V c).arrAt_eq_of_covers 8 _ (by decide +kernel) fun t hf y => ?_
  blk_simp
  rw [after1_8, blk1_0, blk1_1, blk1_2, blk1_3, blk1_4, blk1_5, blk1_6, blk1_7, out1_eq]
  have hy : y = ix4 0 (y 1) (y 2) (y 3) := by blk_ext []
  have he : (win1_8.blk t).view.emb y = ix4 (grid1.coords t 0) (y 1) (y 2) (y 3) := by blk_ext [idx1_8]
  rw [he]
  refine (congrArg _ hy).trans ?_
  exact out0_apply _ _ _ _ _ _ _ _ _ _ _

end Cert.Sage

end
-- ==== Proof.KernelRun.lean ====
/- The kernel's run: its result array as a function of its arguments. -/
module

public import proofs.«01_k».proof.Proof.HostRun
public import proofs.«01_k».proof.Proof.Region
public import Idealize.ShloMosaic.Adequacy
public import Idealize.ShloMosaic.Init

@[expose] public section

set_option maxRecDepth 16384

noncomputable section

namespace Cert.Sage

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The kernel's result array as a function of its ten arguments: three tiles by each region, joined. -/
def kernelOut (x1 : Vec Ideal S1x6x64x64x128 .f32) (x2 : Vec Ideal S1x6x128x128x64 .f32) (W : Vec Ideal S128x64x2x2 .f32)
    (bup : Vec Ideal S64 .f32) (Ws1 Wn1 : Vec Ideal S128x64 .f32) (b1 : Vec Ideal S64 .f32) (Ws2 Wn2 : Vec Ideal S64x64 .f32)
    (b2 : Vec Ideal S64 .f32) : Vec Ideal S1x6x128x128x64 .f32 :=
  joined
    (regionVal (coarse0 x1) (fine0 x2) (taps W) (diag2 (topHalf Ws1) (topHalf Wn1)) (diag2 (botHalf Ws1) (botHalf Wn1))
      (twice (foldBias bup Ws1 Wn1 b1)) (diag2 Ws2 Wn2) (twice b2))
    (regionVal (coarse1 x1) (fine1 x2) (taps W) (diag2 (topHalf Ws1) (topHalf Wn1)) (diag2 (botHalf Ws1) (botHalf Wn1))
      (twice (foldBias bup Ws1 Wn1 b1)) (diag2 Ws2 Wn2) (twice b2))

local notation "𝕄" => MT nD τ sig Unit (Elt Ideal) ℕ (UR sig nD τ) ℕ

variable (m : (ℓ : Loc nD τ sig) → Buf (Elt Ideal) ℓ) (ρ : Dev nD → PrngReg)

/-- The result array at the end of the run is that function of the arguments at launch. -/
theorem w5_out (c : Dev nD) : W5 m ρ c (Proc.devRef .tc main_v66)
    = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [w5_v66, w4_v59]
  have h0 : W2 m ρ c (Proc.devRef .tc main_v59) = _ := (W2_arr m ρ c 8).trans (region0_value (V1 m ρ) c)
  have h1 : W4 m ρ c (Proc.devRef .tc main_v63) = _ := (W4_arr m ρ c 8).trans (region1_value (V3 m ρ) c)
  rw [h0, h1]
  show joined (regionVal (W1 m ρ c (Proc.devRef .tc main_v56)) (W1 m ρ c (Proc.devRef .tc main_v58)) (W1 m ρ c (Proc.devRef .tc main_v10))
      (W1 m ρ c (Proc.devRef .tc main_v21)) (W1 m ρ c (Proc.devRef .tc main_v32)) (W1 m ρ c (Proc.devRef .tc main_v51))
      (W1 m ρ c (Proc.devRef .tc main_v41)) (W1 m ρ c (Proc.devRef .tc main_v55)))
    (regionVal (W3 m ρ c (Proc.devRef .tc main_v60)) (W3 m ρ c (Proc.devRef .tc main_v62)) (W3 m ρ c (Proc.devRef .tc main_v10))
      (W3 m ρ c (Proc.devRef .tc main_v21)) (W3 m ρ c (Proc.devRef .tc main_v32)) (W3 m ρ c (Proc.devRef .tc main_v51))
      (W3 m ρ c (Proc.devRef .tc main_v41)) (W3 m ρ c (Proc.devRef .tc main_v55))) = _
  rw [w3_v60, w3_v62, w3_v10, w3_v21, w3_v32, w3_v51, w3_v41, w3_v55, w1_v10, w1_v21, w1_v32, w1_v51, w1_v41, w1_v55, w1_v56, w1_v58]
  rfl

set_option backward.isDefEq.respectTransparency.types false in
/-- Every weakly fair execution of the kernel's program terminates with every unscoped buffer at the last boundary's contents. -/
theorem launch : θ_run defs (onTc (τ := τ) (main (F := Ideal))) ⟨m, fun _ => 0, ρ⟩ (fun r => ∀ c : Dev nD,
    ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-- The run: the result array holds `kernelOut` of the arguments, and the arguments end unchanged. -/
theorem kernel_run : θ_run (defs (F := Ideal)) (onTc (τ := τ) (main (F := Ideal))) ⟨m, fun _ => 0, ρ⟩ (fun r => ∀ c : Dev nD,
      r.2.mem ((c.tc : Thread nD τ).loc main_v66)
        = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_v66 (by decide))).trans (w5_out m ρ c),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c)⟩) (launch m ρ)

end Cert.Sage

end
-- ==== Proof.KernelValue.lean ====
/- The kernel's result array in closed form: at every tile, the kernel's computation of that tile. -/
module

public import proofs.«01_k».proof.Proof.HostValue
public import proofs.«01_k».proof.Proof.KernelRun

@[expose] public section

noncomputable section

namespace Cert.Sage

open Idealize.ShloMosaic hiding ix1 ix2 ix4 ix5
open Cert.KernelIdeal Cert.KernelIdeal.Gen
open Idealize.ShloMosaic.ValueIdx (ix1 ix2 ix4 ix5)

variable (x1 : Vec Ideal S1x6x64x64x128 .f32) (x2 : Vec Ideal S1x6x128x128x64 .f32) (W : Vec Ideal S128x64x2x2 .f32)
    (bup : Vec Ideal S64 .f32) (Ws1 Wn1 : Vec Ideal S128x64 .f32) (b1 : Vec Ideal S64 .f32) (Ws2 Wn2 : Vec Ideal S64x64 .f32)
    (b2 : Vec Ideal S64 .f32)

/-- One region's result at tile `g`, when its feature arrays hold tile `t` of the arguments there. -/
theorem region_kerTile (a : Vec Ideal S3x64x64x128 .f32) (b : Vec Ideal S3x128x64x128 .f32) (g : Fin 3) (t : Fin 6)
    (ha : ∀ i w c, a (ix4 g i w c) = x1 (ix5 0 t i w c)) (hb : ∀ i j k, b (ix4 g i (half j) (pk j k)) = x2 (ix5 0 t i j k))
    (i j : Fin 128) (o : Fin 64) :
    regionVal a b (taps W) (diag2 (topHalf Ws1) (topHalf Wn1)) (diag2 (botHalf Ws1) (botHalf Wn1))
      (twice (foldBias bup Ws1 Wn1 b1)) (diag2 Ws2 Wn2) (twice b2) (ix4 g i (half j) (pk j o))
    = kerTile (fun i w c => x1 (ix5 0 t i w c)) (fun i j k => x2 (ix5 0 t i j k)) (fun c k p q => W (ix4 c k p q)) (fun k => bup (ix1 k))
      (fun k o => Ws1 (ix2 k o)) (fun k o => Wn1 (ix2 k o)) (fun o => b1 (ix1 o)) (fun k o => Ws2 (ix2 k o)) (fun k o => Wn2 (ix2 k o))
      (fun o => b2 (ix1 o)) i j o := by
  refine (block_eq_kerTile (tileA a g) (tileB b g) (taps W) _ _ _ _ _ (fun c k p q => W (ix4 c k p q)) (fun k => bup (ix1 k))
    (fun k o => Ws1 (ix2 k o)) (fun k o => Wn1 (ix2 k o)) (fun o => b1 (ix1 o)) (fun k o => Ws2 (ix2 k o)) (fun k o => Wn2 (ix2 k o))
    (fun o => b2 (ix1 o)) (fun c i j k => taps_apply W c i j k) ?_ ?_ ?_ (fun r c => diag2_apply Ws2 Wn2 r c)
    (fun j o => twice_apply b2 j o) i j o).trans ?_
  · intro r c; rw [diag2_apply]; simp only [topHalf_apply]
  · intro r c; rw [diag2_apply]; simp only [botHalf_apply]
  · intro j o; rw [twice_apply, foldBias_apply]
  · have e1 : (fun i w c => tileA a g (ix4 0 i w c)) = fun i w c => x1 (ix5 0 t i w c) := by
      funext i w c; exact ha i w c
    have e2 : (fun i j k => tileB b g (ix4 0 i (half j) (pk j k))) = fun i j k => x2 (ix5 0 t i j k) := by
      funext i j k; exact hb i j k
    rw [e1, e2]

/-- **The kernel's result array**: at tile `t` and position `(i, j)` it holds the kernel's computation on tile `t`. -/
theorem kernelOut_apply (t : Fin 6) (i j : Fin 128) (o : Fin 64) :
    kernelOut x1 x2 W bup Ws1 Wn1 b1 Ws2 Wn2 b2 (ix5 0 t i j o)
    = kerTile (fun i w c => x1 (ix5 0 t i w c)) (fun i j k => x2 (ix5 0 t i j k)) (fun c k p q => W (ix4 c k p q)) (fun k => bup (ix1 k))
      (fun k o => Ws1 (ix2 k o)) (fun k o => Wn1 (ix2 k o)) (fun o => b1 (ix1 o)) (fun k o => Ws2 (ix2 k o)) (fun k o => Wn2 (ix2 k o))
      (fun o => b2 (ix1 o)) i j o := by
  unfold kernelOut
  by_cases ht : t.val < 3
  · obtain ⟨g, rfl⟩ : ∃ g, t = tile0 g := ⟨⟨t.val, ht⟩, rfl⟩
    rw [joined_apply0]
    exact region_kerTile x1 x2 W bup Ws1 Wn1 b1 Ws2 Wn2 b2 _ _ g _ (fun i w c => coarse0_apply x1 g i w c) (fun i j k => fine0_apply x2 g i j k) i j o
  · obtain ⟨g, rfl⟩ : ∃ g, t = tile1 g := ⟨⟨t.val - 3, by omega⟩, Fin.ext (by show t.val = 3 + (t.val - 3); omega)⟩
    rw [joined_apply1]
    exact region_kerTile x1 x2 W bup Ws1 Wn1 b1 Ws2 Wn2 b2 _ _ g _ (fun i w c => coarse1_apply x1 g i w c) (fun i j k => fine1_apply x2 g i j k) i j o

end Cert.Sage

end
-- ==== Proof.RefWords.lean ====
/- The reference's integer arithmetic on node numbers, word by word: floor division and remainder as the host program
   spells them, at the words of small natural numbers. -/
module

public import proofs.«01_k».proof.Proof.Gen.ReferenceIdeal.Read
public import proofs.«01_k».proof.Proof.Spec
public import Idealize.ShloMosaic.Lib.Affine
public import Idealize.ShloMosaic.Lib.Routing.BitFacts

@[expose] public section

noncomputable section

namespace Cert.Sage

open Idealize.ShloMosaic Idealize.ShloMosaic.Routing Cert.ReferenceIdeal Cert.ReferenceIdeal.Gen Cert.ReferenceIdeal.Read

/-- The sign of a word: 0, 1 or −1. -/
def wsign (x : BitVec 32) : BitVec 32 := if x = 0 then 0 else if x.msb then -1 else 1

/-- Floor division as the host spells it: the truncated quotient, less one where the signs differ and the division is inexact. -/
def wdiv (x c : BitVec 32) : BitVec 32 :=
  Scalar.select (IntOp.andi (IntOp.cmpi .ne (wsign x) (wsign c)) (IntOp.cmpi .ne (IntOp.remsi .host x c) 0#32))
    (IntOp.subi (IntOp.divsi .host x c) 1#32) (IntOp.divsi .host x c)

/-- The divisor, one in a zero's place. -/
def wdvr (c : BitVec 32) : BitVec 32 := Scalar.select (IntOp.cmpi .eq c 0#32) 1#32 c

/-- The remainder of the divisor's sign as the host spells it. -/
def wrem (x c : BitVec 32) : BitVec 32 :=
  Scalar.select
    (IntOp.andi (IntOp.cmpi .ne (IntOp.cmpi .slt (IntOp.remsi .host x (wdvr c)) 0#32) (IntOp.cmpi .slt (wdvr c) 0#32))
      (IntOp.cmpi .ne (IntOp.remsi .host x (wdvr c)) 0#32))
    (IntOp.addi (IntOp.remsi .host x (wdvr c)) (wdvr c)) (IntOp.remsi .host x (wdvr c))

theorem divsi_ofNat {a b : ℕ} (ha : a < 2 ^ 31) (hb : b < 2 ^ 31) (h0 : 0 < b) :
    IntOp.divsi .host (BitVec.ofNat 32 a) (BitVec.ofNat 32 b) = BitVec.ofNat 32 (a / b) := by
  have hb0 : BitVec.ofNat 32 b ≠ 0 := fun h => by
    have := congrArg BitVec.toNat h
    simp at this; omega
  have hb1 : BitVec.ofNat 32 b ≠ -1 := fun h => by
    have := congrArg BitVec.toNat h
    simp at this; omega
  unfold IntOp.divsi
  rw [if_neg (show ¬ IntOp.SDivCorner _ _ from fun h => h.elim hb0 fun h => hb1 h.2)]
  exact sdiv_ofNat32 ha hb

theorem remsi_ofNat {a b : ℕ} (ha : a < 2 ^ 31) (hb : b < 2 ^ 31) (h0 : 0 < b) :
    IntOp.remsi .host (BitVec.ofNat 32 a) (BitVec.ofNat 32 b) = BitVec.ofNat 32 (a % b) := by
  have hb0 : BitVec.ofNat 32 b ≠ 0 := fun h => by
    have := congrArg BitVec.toNat h
    simp at this; omega
  have hb1 : BitVec.ofNat 32 b ≠ -1 := fun h => by
    have := congrArg BitVec.toNat h
    simp at this; omega
  unfold IntOp.remsi
  rw [if_neg (show ¬ IntOp.SDivCorner _ _ from fun h => h.elim hb0 fun h => hb1 h.2)]
  exact srem_ofNat32 ha hb

theorem msb_ofNat {a : ℕ} (ha : a < 2 ^ 31) : (BitVec.ofNat 32 a).msb = false := by
  rw [BitVec.msb_eq_false_iff_two_mul_lt]; simp; omega

theorem slt_zero_ofNat {a : ℕ} (ha : a < 2 ^ 31) : IntOp.cmpi .slt (BitVec.ofNat 32 a) 0#32 = 0#1 := by
  unfold IntOp.cmpi
  rw [show (BitVec.ofNat 32 a).slt 0#32 = false from by
    rw [BitVec.slt_zero_eq_msb, msb_ofNat ha]]
  rfl

/-- The floor division of small naturals. -/
theorem wdiv_ofNat {a b : ℕ} (ha : a < 2 ^ 31) (hb : b < 2 ^ 31) (h0 : 0 < b) :
    wdiv (BitVec.ofNat 32 a) (BitVec.ofNat 32 b) = BitVec.ofNat 32 (a / b) := by
  unfold wdiv
  rw [divsi_ofNat ha hb h0, remsi_ofNat ha hb h0]
  have hb0 : BitVec.ofNat 32 b ≠ 0 := fun h => by
    have := congrArg BitVec.toNat h
    simp at this; omega
  have hsb : wsign (BitVec.ofNat 32 b) = 1 := by
    unfold wsign; rw [if_neg hb0, msb_ofNat hb]; rfl
  by_cases hz : a = 0
  · subst hz
    rw [Nat.zero_mod, Nat.zero_div]
    rw [show IntOp.cmpi .ne (BitVec.ofNat 32 0) 0#32 = 0#1 from rfl]
    rw [show ∀ x, IntOp.andi x (0#1) = 0#1 from fun x => by unfold IntOp.andi; simp]
    rfl
  · have ha0 : BitVec.ofNat 32 a ≠ 0 := fun h => by
      have := congrArg BitVec.toNat h
      simp at this; omega
    have hsa : wsign (BitVec.ofNat 32 a) = 1 := by
      unfold wsign; rw [if_neg ha0, msb_ofNat ha]; rfl
    rw [hsa, hsb]
    rw [show IntOp.cmpi .ne (1 : BitVec 32) 1 = 0#1 from rfl]
    rw [show ∀ x, IntOp.andi (0#1) x = 0#1 from fun x => by unfold IntOp.andi; simp]
    rfl

/-- The remainder of small naturals. -/
theorem wrem_ofNat {a b : ℕ} (ha : a < 2 ^ 31) (hb : b < 2 ^ 31) (h0 : 0 < b) :
    wrem (BitVec.ofNat 32 a) (BitVec.ofNat 32 b) = BitVec.ofNat 32 (a % b) := by
  have hb0 : BitVec.ofNat 32 b ≠ 0 := fun h => by
    have := congrArg BitVec.toNat h
    simp at this; omega
  have hd : wdvr (BitVec.ofNat 32 b) = BitVec.ofNat 32 b := by
    unfold wdvr IntOp.cmpi
    rw [show (BitVec.ofNat 32 b == 0#32) = false from by simpa using hb0]
    rfl
  unfold wrem
  rw [hd, remsi_ofNat ha hb h0, slt_zero_ofNat hb, slt_zero_ofNat (lt_of_le_of_lt (Nat.mod_le a b) ha)]
  rw [show IntOp.cmpi .ne (0#1) (0#1) = 0#1 from rfl]
  rw [show ∀ x, IntOp.andi (0#1) x = 0#1 from fun x => by unfold IntOp.andi; simp]
  rfl

/-- The next row or column, as the host computes it: one more, modulo 128. -/
theorem wrem_next (i : Fin 128) : wrem (IntOp.addi (BitVec.ofNat 32 i.val) 1#32) 128#32 = BitVec.ofNat 32 (nxt i).val := by
  revert i; decide

/-- The previous row or column, as the host computes it: one less, modulo 128. -/
theorem wrem_prev (i : Fin 128) : wrem (IntOp.subi (BitVec.ofNat 32 i.val) 1#32) 128#32 = BitVec.ofNat 32 (prv i).val := by
  revert i; decide

/-! ## The reference's node arithmetic at one node -/

section
variable (p : S98304.Idx)

theorem v10_word : val_main_v10 (F := Ideal) p = wdiv (BitVec.ofNat 32 (p 0).val) 16384#32 := rfl
theorem v11_word : val_main_v11 (F := Ideal) p = wrem (BitVec.ofNat 32 (p 0).val) 16384#32 := rfl
theorem v12_word : val_main_v12 (F := Ideal) p = wdiv (val_main_v11 (F := Ideal) p) 128#32 := rfl
theorem v13_word : val_main_v13 (F := Ideal) p = wrem (val_main_v11 (F := Ideal) p) 128#32 := rfl
theorem v17_word : val_main_v17 (F := Ideal) p = (val_main_v10 (F := Ideal) p * 128#32) * 128#32 := rfl
theorem v24_word : val_main_v24 (F := Ideal) p = (val_main_v17 (F := Ideal) p
    + wrem (IntOp.addi (val_main_v12 (F := Ideal) p) 1#32) 128#32 * 128#32) + val_main_v13 (F := Ideal) p := rfl
theorem v31_word : val_main_v31 (F := Ideal) p = (val_main_v17 (F := Ideal) p
    + wrem (IntOp.subi (val_main_v12 (F := Ideal) p) 1#32) 128#32 * 128#32) + val_main_v13 (F := Ideal) p := rfl
theorem v38_word : val_main_v38 (F := Ideal) p = (val_main_v17 (F := Ideal) p
    + val_main_v12 (F := Ideal) p * 128#32) + wrem (IntOp.addi (val_main_v13 (F := Ideal) p) 1#32) 128#32 := rfl
theorem v45_word : val_main_v45 (F := Ideal) p = (val_main_v17 (F := Ideal) p
    + val_main_v12 (F := Ideal) p * 128#32) + wrem (IntOp.subi (val_main_v13 (F := Ideal) p) 1#32) 128#32 := rfl

end

/-- The node number of tile `t`, row `i`, column `j`. -/
def node (t : Fin 6) (i j : Fin 128) : Fin 98304 := ⟨(t.val * 128 + i.val) * 128 + j.val, by omega⟩

open Idealize.ShloMosaic.ValueIdx (ix1)

theorem v10_node (t : Fin 6) (i j : Fin 128) : val_main_v10 (F := Ideal) (ix1 (node t i j)) = BitVec.ofNat 32 t.val := by
  rw [v10_word]
  show wdiv (BitVec.ofNat 32 (node t i j).val) (BitVec.ofNat 32 16384) = _
  rw [wdiv_ofNat (by have := (node t i j).isLt; omega) (by norm_num) (by norm_num)]
  congr 1
  show ((t.val * 128 + i.val) * 128 + j.val) / 16384 = _
  omega
theorem v11_node (t : Fin 6) (i j : Fin 128) : val_main_v11 (F := Ideal) (ix1 (node t i j)) = BitVec.ofNat 32 (i.val * 128 + j.val) := by
  rw [v11_word]
  show wrem (BitVec.ofNat 32 (node t i j).val) (BitVec.ofNat 32 16384) = _
  rw [wrem_ofNat (by have := (node t i j).isLt; omega) (by norm_num) (by norm_num)]
  congr 1
  show ((t.val * 128 + i.val) * 128 + j.val) % 16384 = _
  omega
theorem v12_node (t : Fin 6) (i j : Fin 128) : val_main_v12 (F := Ideal) (ix1 (node t i j)) = BitVec.ofNat 32 i.val := by
  rw [v12_word, v11_node]
  show wdiv _ (BitVec.ofNat 32 128) = _
  rw [wdiv_ofNat (by omega) (by norm_num) (by norm_num)]
  congr 1
  omega
theorem v13_node (t : Fin 6) (i j : Fin 128) : val_main_v13 (F := Ideal) (ix1 (node t i j)) = BitVec.ofNat 32 j.val := by
  rw [v13_word, v11_node]
  show wrem _ (BitVec.ofNat 32 128) = _
  rw [wrem_ofNat (by omega) (by norm_num) (by norm_num)]
  congr 1
  omega

/-- The word of a node number from the words of its coordinates. -/
theorem node_word (t : Fin 6) (i j : Fin 128) :
    ((BitVec.ofNat 32 t.val * 128#32) * 128#32 + BitVec.ofNat 32 i.val * 128#32) + BitVec.ofNat 32 j.val
      = BitVec.ofNat 32 (node t i j).val := by
  show ((BitVec.ofNat 32 t.val * BitVec.ofNat 32 128) * BitVec.ofNat 32 128 + BitVec.ofNat 32 i.val * BitVec.ofNat 32 128)
    + BitVec.ofNat 32 j.val = _
  rw [← BitVec.ofNat_mul, ← BitVec.ofNat_mul, ← BitVec.ofNat_mul, ← BitVec.ofNat_add, ← BitVec.ofNat_add]
  congr 1
  show _ = (t.val * 128 + i.val) * 128 + j.val
  ring

/-- The four neighbours the reference names at a node: next row, previous row, next column, previous column. -/
theorem v24_node (t : Fin 6) (i j : Fin 128) : val_main_v24 (F := Ideal) (ix1 (node t i j)) = BitVec.ofNat 32 (node t (nxt i) j).val := by
  rw [v24_word, v17_word, v10_node, v12_node, v13_node, wrem_next, node_word]
theorem v31_node (t : Fin 6) (i j : Fin 128) : val_main_v31 (F := Ideal) (ix1 (node t i j)) = BitVec.ofNat 32 (node t (prv i) j).val := by
  rw [v31_word, v17_word, v10_node, v12_node, v13_node, wrem_prev, node_word]
theorem v38_node (t : Fin 6) (i j : Fin 128) : val_main_v38 (F := Ideal) (ix1 (node t i j)) = BitVec.ofNat 32 (node t i (nxt j)).val := by
  rw [v38_word, v17_word, v10_node, v12_node, v13_node, wrem_next, node_word]
theorem v45_node (t : Fin 6) (i j : Fin 128) : val_main_v45 (F := Ideal) (ix1 (node t i j)) = BitVec.ofNat 32 (node t i (prv j)).val := by
  rw [v45_word, v17_word, v10_node, v12_node, v13_node, wrem_prev, node_word]

end Cert.Sage

end
-- ==== Proof.RefEdges.lean ====
/- The reference's neighbour aggregation: gathering the source node of every edge and adding it to the edge's target gives,
   at each node, the sum of its four neighbours in the periodic grid. -/
module

public import proofs.«01_k».proof.Proof.RefWords
public import Idealize.ShloMosaic.Lib.Routing.OpsPair
public import Idealize.ShloMosaic.Lib.ValueIdx
public import Idealize.ShloMosaic.Lib.Pipeline.Value

@[expose] public section

noncomputable section

namespace Cert.Sage

open Idealize.ShloMosaic Idealize.ShloMosaic.Routing Cert.ReferenceIdeal Cert.ReferenceIdeal.Gen Cert.ReferenceIdeal.Read
open Idealize.ShloMosaic.ValueIdx (ix1 ix2 ix3)

/-- Edge `p` of the `s`-th of the four neighbour lists. -/
def edge (s : Fin 4) (p : Fin 98304) : Fin 393216 := ⟨s.val * 98304 + p.val, by omega⟩

/-- The `s`-th neighbour of a node. -/
def nbr (s : Fin 4) (t : Fin 6) (i j : Fin 128) : Fin 98304 :=
  match s with
  | ⟨0, _⟩ => node t (nxt i) j
  | ⟨1, _⟩ => node t (prv i) j
  | ⟨2, _⟩ => node t i (nxt j)
  | ⟨3, _⟩ => node t i (prv j)

/-- The source of each edge. -/
theorem v46_edge (s : Fin 4) (t : Fin 6) (i j : Fin 128) :
    val_main_v46 (F := Ideal) (ix1 (edge s (node t i j))) = BitVec.ofNat 32 (nbr s t i j).val := by
  unfold val_main_v46
  match s with
  | ⟨0, _⟩ =>
    refine (concatenate_apply_piece (t := S393216) 0 _ _ _ 0 (by simp) S98304 (val_main_v24 (F := Ideal)) rfl rfl 0 rfl
      (ix1 (node t i j)) (fun b hb => absurd (Subsingleton.elim _ _) hb) ?_).trans (v24_node t i j)
    show 0 + (node t i j).val = 0 * 98304 + (node t i j).val
    omega
  | ⟨1, _⟩ =>
    refine (concatenate_apply_piece (t := S393216) 0 _ _ _ 1 (by simp) S98304 (val_main_v31 (F := Ideal)) rfl rfl 98304 rfl
      (ix1 (node t i j)) (fun b hb => absurd (Subsingleton.elim _ _) hb) ?_).trans (v31_node t i j)
    show 98304 + (node t i j).val = 1 * 98304 + (node t i j).val
    omega
  | ⟨2, _⟩ =>
    refine (concatenate_apply_piece (t := S393216) 0 _ _ _ 2 (by simp) S98304 (val_main_v38 (F := Ideal)) rfl rfl 196608 rfl
      (ix1 (node t i j)) (fun b hb => absurd (Subsingleton.elim _ _) hb) ?_).trans (v38_node t i j)
    show 196608 + (node t i j).val = 2 * 98304 + (node t i j).val
    omega
  | ⟨3, _⟩ =>
    refine (concatenate_apply_piece (t := S393216) 0 _ _ _ 3 (by simp) S98304 (val_main_v45 (F := Ideal)) rfl rfl 294912 rfl
      (ix1 (node t i j)) (fun b hb => absurd (Subsingleton.elim _ _) hb) ?_).trans (v45_node t i j)
    show 294912 + (node t i j).val = 3 * 98304 + (node t i j).val
    omega

/-- The target of each edge. -/
theorem v47_edge (s : Fin 4) (p : Fin 98304) :
    val_main_v47 (F := Ideal) (ix1 (edge s p)) = BitVec.ofNat 32 p.val := by
  unfold val_main_v47
  match s with
  | ⟨0, _⟩ =>
    refine (concatenate_apply_piece (t := S393216) 0 _ _ _ 0 (by simp) S98304 (val_main_v9 (F := Ideal)) rfl rfl 0 rfl
      (ix1 p) (fun b hb => absurd (Subsingleton.elim _ _) hb) ?_).trans rfl
    show 0 + p.val = 0 * 98304 + p.val
    omega
  | ⟨1, _⟩ =>
    refine (concatenate_apply_piece (t := S393216) 0 _ _ _ 1 (by simp) S98304 (val_main_v9 (F := Ideal)) rfl rfl 98304 rfl
      (ix1 p) (fun b hb => absurd (Subsingleton.elim _ _) hb) ?_).trans rfl
    show 98304 + p.val = 1 * 98304 + p.val
    omega
  | ⟨2, _⟩ =>
    refine (concatenate_apply_piece (t := S393216) 0 _ _ _ 2 (by simp) S98304 (val_main_v9 (F := Ideal)) rfl rfl 196608 rfl
      (ix1 p) (fun b hb => absurd (Subsingleton.elim _ _) hb) ?_).trans rfl
    show 196608 + p.val = 2 * 98304 + p.val
    omega
  | ⟨3, _⟩ =>
    refine (concatenate_apply_piece (t := S393216) 0 _ _ _ 3 (by simp) S98304 (val_main_v9 (F := Ideal)) rfl rfl 294912 rfl
      (ix1 p) (fun b hb => absurd (Subsingleton.elim _ _) hb) ?_).trans rfl
    show 294912 + p.val = 3 * 98304 + p.val
    omega

/-- A word that is not negative passes the wrap of negative indices unchanged. -/
theorem wrap_ofNat {n : ℕ} (hn : n < 2 ^ 31) (a : BitVec 32) :
    Scalar.select (IntOp.cmpi .slt (BitVec.ofNat 32 n) 0#32) a (BitVec.ofNat 32 n) = BitVec.ofNat 32 n := by
  rw [slt_zero_ofNat hn]; rfl

theorem v55_edge (s : Fin 4) (t : Fin 6) (i j : Fin 128) :
    val_main_v55 (F := Ideal) (ix2 (edge s (node t i j)) 0) = BitVec.ofNat 32 (nbr s t i j).val := by
  rw [val_main_v55_apply]
  have e : idx_main_v55 (ix2 (edge s (node t i j)) 0) = ix1 (edge s (node t i j)) := by
    funext a; match a with | ⟨0, _⟩ => rfl
  rw [e, val_main_v54_apply, val_main_v51_apply, v46_edge]
  exact wrap_ofNat (by have := (nbr s t i j).isLt; omega) _

theorem v74_eq : val_main_v74 (F := Ideal) = val_main_v55 (F := Ideal) := rfl
theorem v77_eq : val_main_v77 (F := Ideal) = val_main_v58 (F := Ideal) := rfl

theorem v58_edge (s : Fin 4) (p : Fin 98304) :
    val_main_v58 (F := Ideal) (ix2 (edge s p) 0) = BitVec.ofNat 32 p.val := by
  rw [val_main_v58_apply]
  have e : idx_main_v58 (ix2 (edge s p) 0) = ix1 (edge s p) := by
    funext a; match a with | ⟨0, _⟩ => rfl
  rw [e, v47_edge]

theorem toInt_ofNat_node (p : Fin 98304) : (BitVec.ofNat 32 p.val).toInt = (p.val : ℤ) := by
  have := p.isLt
  rw [BitVec.toInt_eq_toNat_of_lt (by simp; omega)]
  simp; omega

/-! ## Gather and scatter of rows -/

/-- Node features and edge features with `C` channels, and the edges' index column. -/
abbrev Nodes (C : ℕ) : Shape := ⟨3, ![98304, 1, C]⟩
abbrev Edges (C : ℕ) : Shape := ⟨3, ![393216, 1, C]⟩
abbrev Col : Shape := ⟨2, ![393216, 1]⟩

/-- Gathering whole rows: the dimension numbers. -/
abbrev rowGather (C : ℕ) (wf : GatherDims.WF (Nodes C) Col (Edges C) [1, 2] [0] [] [0] [] 1 ![1, 1, C]) :
    GatherDims (Nodes C) Col (Edges C) where
  offsetDims := [1, 2]
  collapsedSliceDims := [0]
  operandBatchingDims := []
  startIndicesBatchingDims := []
  startIndexMap := [0]
  indexVectorDim := 1
  sliceSizes := ![1, 1, C]
  wf := wf

/-- Scattering whole rows: the dimension numbers. -/
abbrev rowScatter (C : ℕ) (wf : ScatterDims.WF (Nodes C) Col (Edges C) [1, 2] [0] [0] 1) :
    ScatterDims (Nodes C) Col (Edges C) where
  updateWindowDims := [1, 2]
  insertedWindowDims := [0]
  scatterDimsToOperandDims := [0]
  indexVectorDim := 1
  wf := wf

/-- A gathered row is the row its index names. -/
theorem rowGather_apply {C : ℕ} {α : Type} (wf : GatherDims.WF (Nodes C) Col (Edges C) [1, 2] [0] [] [0] [] 1 ![1, 1, C])
    (x : (Nodes C).Idx → α) (idx : IVec Col 32) (e : Fin 393216) (k : Fin C) (p : Fin 98304)
    (hp : idx (ix2 e 0) = BitVec.ofNat 32 p.val) :
    Host.gather (rowGather C wf) x idx (ix3 e 0 k) = x (ix3 p 0 k) := by
  unfold Host.gather
  congr 1
  funext a
  refine Fin.ext ?_
  show (rowGather C wf).start (ix3 e 0 k) idx a + (rowGather C wf).batchCoord (ix3 e 0 k) a + (rowGather C wf).offCoord (ix3 e 0 k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 3) ∈ (rowGather C wf).startIndexMap from List.mem_singleton.mpr rfl)]
    have hsi : (rowGather C wf).siIdx (ix3 e 0 k) ⟨List.idxOf (⟨0, by decide⟩ : Fin 3) (rowGather C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi, hp, toInt_ofNat_node]
    show min p.val (98304 - 1) + 0 + 0 = p.val
    have := p.isLt
    omega
  | ⟨1, _⟩ => rfl
  | ⟨2, _⟩ =>
    show (0 : ℕ) + 0 + k.val = k.val
    omega

/-- Where an update's element lands. -/
theorem rowScatter_lands {C : ℕ} (wf : ScatterDims.WF (Nodes C) Col (Edges C) [1, 2] [0] [0] 1) (idx : IVec Col 32)
    (e : Fin 393216) (k' : Fin C) (p : Fin 98304) (k : Fin C) (q : Fin 98304) (hq : idx (ix2 e 0) = BitVec.ofNat 32 q.val) :
    (rowScatter C wf).resultIdx? (ix3 e 0 k') idx = some (ix3 p 0 k) ↔ q = p ∧ k' = k := by
  rw [resultIdx?_eq_some]
  have hs : (rowScatter C wf).siIdx (ix3 e 0 k') ⟨List.idxOf (0 : Fin 3) (rowScatter C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  have h0 : (rowScatter C wf).start (ix3 e 0 k') idx (0 : Fin 3) + ((rowScatter C wf).window (ix3 e 0 k') (0 : Fin 3) : ℤ)
      = (q.val : ℤ) := by
    unfold ScatterDims.start
    rw [dif_pos (show (0 : Fin 3) ∈ (rowScatter C wf).scatterDimsToOperandDims from List.mem_singleton.mpr rfl), hs, hq,
      toInt_ofNat_node]
    show (q.val : ℤ) + ((0 : ℕ) : ℤ) = q.val
    simp
  have h1 : (rowScatter C wf).start (ix3 e 0 k') idx (1 : Fin 3) + ((rowScatter C wf).window (ix3 e 0 k') (1 : Fin 3) : ℤ)
      = 0 := rfl
  have h2 : (rowScatter C wf).start (ix3 e 0 k') idx (2 : Fin 3) + ((rowScatter C wf).window (ix3 e 0 k') (2 : Fin 3) : ℤ)
      = (k'.val : ℤ) := by
    show (0 : ℤ) + (k'.val : ℤ) = _
    simp
  constructor
  · intro h
    have e0 := h0.symm.trans (h (0 : Fin 3))
    have e2 := h2.symm.trans (h (2 : Fin 3))
    exact ⟨Fin.ext (by exact_mod_cast e0), Fin.ext (by exact_mod_cast e2)⟩
  · rintro ⟨rfl, rfl⟩ a
    match a with
    | ⟨0, _⟩ => exact h0
    | ⟨1, _⟩ => exact h1
    | ⟨2, _⟩ => exact h2

/-- Adding each edge's row at its target: every node receives its four edges' rows. -/
theorem rowScatter_apply {C : ℕ} (wf : ScatterDims.WF (Nodes C) Col (Edges C) [1, 2] [0] [0] 1) (idx : IVec Col 32)
    (hidx : ∀ s p, idx (ix2 (edge s p) 0) = BitVec.ofNat 32 p.val) (x : (Nodes C).Idx → EReal) (u : (Edges C).Idx → EReal)
    (p : Fin 98304) (k : Fin C) :
    Ideal.hostScatterAdd (rowScatter C wf) x idx u (ix3 p 0 k) = x (ix3 p 0 k) + ∑ s : Fin 4, u (ix3 (edge s p) 0 k) := by
  show x (ix3 p 0 k) + ∑ j ∈ Finset.univ.filter (fun j : (Edges C).Idx => (rowScatter C wf).resultIdx? j idx = some (ix3 p 0 k)), u j = _
  refine congrArg (x (ix3 p 0 k) + ·) ?_
  have hf : (Finset.univ.filter fun j : (Edges C).Idx => (rowScatter C wf).resultIdx? j idx = some (ix3 p 0 k))
      = Finset.univ.image fun s : Fin 4 => (ix3 (edge s p) 0 k : (Edges C).Idx) := by
    ext y
    simp only [Finset.mem_filter, Finset.mem_univ, true_and, Finset.mem_image]
    obtain ⟨e, z, k', rfl⟩ : ∃ (e : Fin 393216) (z : Fin 1) (k' : Fin C), y = ix3 e z k' :=
      ⟨y 0, y 1, y 2, by funext a; match a with | ⟨0, _⟩ => rfl | ⟨1, _⟩ => rfl | ⟨2, _⟩ => rfl⟩
    obtain rfl : z = 0 := Subsingleton.elim _ _
    obtain ⟨s, q, rfl⟩ : ∃ s q, e = edge s q :=
      ⟨⟨e.val / 98304, by omega⟩, ⟨e.val % 98304, by omega⟩, Fin.ext (by show e.val = e.val / 98304 * 98304 + e.val % 98304; omega)⟩
    rw [rowScatter_lands wf idx _ k' p k q (hidx s q)]
    constructor
    · rintro ⟨rfl, rfl⟩; exact ⟨s, rfl⟩
    · rintro ⟨s', h⟩
      have h0 : (edge s' p).val = (edge s q).val := congrArg Fin.val (congrFun h (0 : Fin 3))
      have h2 : k.val = k'.val := congrArg Fin.val (congrFun h (2 : Fin 3))
      have h0' : s'.val * 98304 + p.val = s.val * 98304 + q.val := h0
      exact ⟨Fin.ext (by omega), Fin.ext h2.symm⟩
  rw [hf, Finset.sum_image]
  intro s _ s' _ h
  have h0 : (edge s p).val = (edge s' p).val := congrArg Fin.val (congrFun h (0 : Fin 3))
  have h0' : s.val * 98304 + p.val = s'.val * 98304 + p.val := h0
  exact Fin.ext (by omega)

/-- The aggregation at one node: the operand's element plus the four neighbours' features. -/
theorem aggregate {C : ℕ} (wg : GatherDims.WF (Nodes C) Col (Edges C) [1, 2] [0] [] [0] [] 1 ![1, 1, C])
    (ws : ScatterDims.WF (Nodes C) Col (Edges C) [1, 2] [0] [0] 1) (z h : (Nodes C).Idx → EReal)
    (t : Fin 6) (i j : Fin 128) (k : Fin C) :
    Ideal.hostScatterAdd (rowScatter C ws) z (val_main_v58 (F := Ideal)) (Host.gather (rowGather C wg) h (val_main_v55 (F := Ideal)))
        (ix3 (node t i j) 0 k)
      = z (ix3 (node t i j) 0 k)
        + (((h (ix3 (node t (nxt i) j) 0 k) + h (ix3 (node t (prv i) j) 0 k)) + h (ix3 (node t i (nxt j)) 0 k))
          + h (ix3 (node t i (prv j)) 0 k)) := by
  rw [rowScatter_apply ws _ v58_edge]
  refine congrArg (z (ix3 (node t i j) 0 k) + ·) ?_
  rw [Fin.sum_univ_four]
  simp only [rowGather_apply wg h _ _ k _ (v55_edge _ t i j)]
  rfl

end Cert.Sage

end
-- ==== Proof.RefValue.lean ====
/- The reference's result, element by element: two layers of the periodic graph convolution on the joined features. -/
module

public import proofs.«01_k».proof.Proof.RefEdges
public import proofs.«01_k».proof.Proof.Spec
public import Idealize.ShloMosaic.Lib.IdealHost
public import Idealize.ShloMosaic.Lib.ValueIdxRank6

@[expose] public section

noncomputable section

namespace Cert.Sage

open Idealize.ShloMosaic Cert.ReferenceIdeal Cert.ReferenceIdeal.Gen Cert.ReferenceIdeal.Read
open Idealize.ShloMosaic.ValueIdx (ix1 ix2 ix3 ix4 ix5 ix6)

/-! ## The constants -/

theorem ref_four_bits : (Scalar.ofBits .f32 0x40800000#32 : Ideal .f32) = ((4 : ℝ) : EReal) := by
  show Ideal.ofBits .f32 0x40800000#32 = _
  simp [Ideal.ofBits, Ideal.ieee, -EReal.coe_mul]; norm_num
theorem ref_zero_bits : (Scalar.ofBits .f32 0x00000000#32 : Ideal .f32) = 0 := by
  show Ideal.ofBits .f32 0x00000000#32 = _
  simp [Ideal.ofBits, Ideal.ieee]

variable (x0 : Vec Ideal S1x6x64x64x128 .f32) (x1 : Vec Ideal S1x6x128x128x64 .f32) (x2 : Vec Ideal S128x64x2x2 .f32)
    (x3 : Vec Ideal S64 .f32) (x4 x5 : Vec Ideal S128x64 .f32) (x6 : Vec Ideal S64 .f32) (x7 x8 : Vec Ideal S64x64 .f32)
    (x9 : Vec Ideal S64 .f32)

/-! ## The joined features -/

/-- The upsampled coarse features, before the bias. -/
theorem v3_at (t : Fin 6) (i j : Fin 128) (k : Fin 64) :
    val_main_v3 (F := Ideal) x0 x2 (ix4 t i j k)
      = upv (fun i w c => x0 (ix5 0 t i w c)) (fun c k p q => x2 (ix4 c k p q)) i j k := by
  unfold val_main_v3
  rw [shapeCast_apply (t := S6x128x128x64) (s := S6x64x2x64x2x64) _ _ (ix4 t i j k) (ix6 t (half i) (par i) (half j) (par j) k) (by
    rw [Shape.rowMajor_val_four, Shape.rowMajor_val_six]
    have hi := Nat.div_add_mod i.val 2
    have hj := Nat.div_add_mod j.val 2
    show ((((t.val * 64 + i.val / 2) * 2 + i.val % 2) * 64 + j.val / 2) * 2 + j.val % 2) * 64 + k.val
      = ((t.val * 128 + i.val) * 128 + j.val) * 64 + k.val
    omega), val_main_v2_apply, val_main_v1_apply]
  unfold upv
  refine Finset.sum_congr rfl fun c _ => ?_
  rw [mul_comm, val_main_v0_apply]
  refine congrArg₂ (· * ·) (congrArg x0 ?_) (congrArg x2 ?_)
  · funext a
    have ht := t.isLt; have hc := c.isLt
    have hi : i.val / 2 < 64 := by omega
    have hj : j.val / 2 < 64 := by omega
    match a with
    | ⟨0, _⟩ => rfl
    | ⟨1, _⟩ => exact Fin.ext (by show (((t.val * 64 + i.val / 2) * 64 + j.val / 2) * 128 + c.val) / 524288 % 6 = t.val; omega)
    | ⟨2, _⟩ => exact Fin.ext (by show (((t.val * 64 + i.val / 2) * 64 + j.val / 2) * 128 + c.val) / 8192 % 64 = i.val / 2; omega)
    | ⟨3, _⟩ => exact Fin.ext (by show (((t.val * 64 + i.val / 2) * 64 + j.val / 2) * 128 + c.val) / 128 % 64 = j.val / 2; omega)
    | ⟨4, _⟩ => exact Fin.ext (by show (((t.val * 64 + i.val / 2) * 64 + j.val / 2) * 128 + c.val) % 128 = c.val; omega)
  · funext a
    match a with
    | ⟨0, _⟩ => rfl
    | ⟨1, _⟩ => rfl
    | ⟨2, _⟩ => rfl
    | ⟨3, _⟩ => rfl

/-- The upsampled coarse features with their bias. -/
theorem v7_at (t : Fin 6) (i j : Fin 128) (k : Fin 64) :
    val_main_v7 (F := Ideal) x0 x2 x3 (ix5 0 t i j k)
      = upv (fun i w c => x0 (ix5 0 t i w c)) (fun c k p q => x2 (ix4 c k p q)) i j k + x3 (ix1 k) := by
  rw [val_main_v7_apply, show idx_main_v7 (ix5 0 t i j k) = ix4 t i j k from by
    funext a
    have ht := t.isLt; have hi := i.isLt; have hj := j.isLt; have hk := k.isLt
    match a with
    | ⟨0, _⟩ => exact Fin.ext (by show ((((0 * 6 + t.val) * 128 + i.val) * 128 + j.val) * 64 + k.val) / 1048576 = t.val; omega)
    | ⟨1, _⟩ => exact Fin.ext (by show ((((0 * 6 + t.val) * 128 + i.val) * 128 + j.val) * 64 + k.val) / 8192 % 128 = i.val; omega)
    | ⟨2, _⟩ => exact Fin.ext (by show ((((0 * 6 + t.val) * 128 + i.val) * 128 + j.val) * 64 + k.val) / 64 % 128 = j.val; omega)
    | ⟨3, _⟩ => exact Fin.ext (by show ((((0 * 6 + t.val) * 128 + i.val) * 128 + j.val) * 64 + k.val) % 64 = k.val; omega),
    val_main_v6_apply, v3_at, val_main_v5_apply, val_main_v4_apply]
  refine congrArg (_ + ·) (congrArg x3 ?_)
  funext a
  match a with
  | ⟨0, _⟩ => rfl

/-- The joined features of a tile. -/
abbrev joinedFeatures (t : Fin 6) : Grid 128 :=
  cat (fun i j k => x1 (ix5 0 t i j k)) (upv (fun i w c => x0 (ix5 0 t i w c)) (fun c k p q => x2 (ix4 c k p q))) (fun k => x3 (ix1 k))

theorem v8_at (t : Fin 6) (i j : Fin 128) (k : Fin 128) :
    val_main_v8 (F := Ideal) x0 x1 x2 x3 (ix5 0 t i j k) = joinedFeatures x0 x1 x2 x3 t i j k := by
  unfold val_main_v8 joinedFeatures cat
  by_cases hk : k.val < 64
  · rw [dif_pos hk]
    exact concatenate_apply_piece (t := S1x6x128x128x128) 4 _ _ (ix5 0 t i j k) 0 (by simp) S1x6x128x128x64 x1 rfl rfl 0 rfl
      (ix5 0 t i j ⟨k.val, hk⟩) (by intro b hb; fin_cases b <;> first | rfl | exact absurd rfl hb) (by show 0 + k.val = k.val; omega)
  · rw [dif_neg hk]
    refine (concatenate_apply_piece (t := S1x6x128x128x128) 4 _ _ (ix5 0 t i j k) 1 (by simp) S1x6x128x128x64
      (val_main_v7 (F := Ideal) x0 x2 x3) rfl rfl 64 rfl (ix5 0 t i j ⟨k.val - 64, by omega⟩)
      (by intro b hb; fin_cases b <;> first | rfl | exact absurd rfl hb) (by show 64 + (k.val - 64) = k.val; omega)).trans ?_
    exact v7_at x0 x2 x3 t i j _

/-- The joined features, one row per node. -/
theorem v49_at (t : Fin 6) (i j : Fin 128) (k : Fin 128) :
    val_main_v49 (F := Ideal) x0 x1 x2 x3 (ix3 (node t i j) 0 k) = joinedFeatures x0 x1 x2 x3 t i j k := by
  rw [val_main_v49_apply, val_main_v48_apply, ← v8_at]
  refine congrArg _ ?_
  funext a
  have ht := t.isLt; have hi := i.isLt; have hj := j.isLt; have hk := k.isLt
  match a with
  | ⟨0, _⟩ => rfl
  | ⟨1, _⟩ => exact Fin.ext (by show ((0 * 98304 + ((t.val * 128 + i.val) * 128 + j.val)) * 128 + k.val) / 2097152 % 6 = t.val; omega)
  | ⟨2, _⟩ => exact Fin.ext (by show ((0 * 98304 + ((t.val * 128 + i.val) * 128 + j.val)) * 128 + k.val) / 16384 % 128 = i.val; omega)
  | ⟨3, _⟩ => exact Fin.ext (by show ((0 * 98304 + ((t.val * 128 + i.val) * 128 + j.val)) * 128 + k.val) / 128 % 128 = j.val; omega)
  | ⟨4, _⟩ => exact Fin.ext (by show ((0 * 98304 + ((t.val * 128 + i.val) * 128 + j.val)) * 128 + k.val) % 128 = k.val; omega)

/-! ## The first layer -/

theorem v57_at (p : S98304x1x128.Idx) : val_main_v57 (F := Ideal) p = 0 :=
  (val_main_v57_apply (F := Ideal) p).trans ref_zero_bits
theorem v60_at (p : S98304x1x128.Idx) : val_main_v60 (F := Ideal) p = ((4 : ℝ) : EReal) :=
  (val_main_v60_apply (F := Ideal) p).trans ref_four_bits
theorem call8_at (p : S98304x1x64.Idx) : val_main_call8_v0 (F := Ideal) p = 0 :=
  (val_main_call8_v0_apply (F := Ideal) p).trans ref_zero_bits

/-- The mean of the four neighbours' features. -/
theorem v61_at (t : Fin 6) (i j : Fin 128) (k : Fin 128) :
    val_main_v61 (F := Ideal) x0 x1 x2 x3 (ix3 (node t i j) 0 k)
      = Ideal.div (((joinedFeatures x0 x1 x2 x3 t (nxt i) j k + joinedFeatures x0 x1 x2 x3 t (prv i) j k)
          + joinedFeatures x0 x1 x2 x3 t i (nxt j) k) + joinedFeatures x0 x1 x2 x3 t i (prv j) k) ((4 : ℝ) : EReal) := by
  rw [val_main_v61_apply, v60_at]
  refine congrArg (fun s : EReal => Ideal.div s ((4 : ℝ) : EReal)) ?_
  unfold val_main_v59 val_main_v56
  refine (aggregate gather_S98304x1x128_S393216x1_S393216x1x128_12_0_n_n_0_1_11128_wf
    scatter_S98304x1x128_S393216x1_S393216x1x128_12_0_0_1_wf (val_main_v57 (F := Ideal)) (val_main_v49 (F := Ideal) x0 x1 x2 x3) t i j k).trans ?_
  rw [v57_at, zero_add, v49_at, v49_at, v49_at, v49_at]

theorem v66_at (p : Fin 98304) (o : Fin 64) : val_main_v66 (F := Ideal) x6 (ix3 p 0 o) = x6 (ix1 o) := by
  rw [val_main_v66_apply, val_main_v65_apply]
  refine congrArg x6 ?_
  funext a
  match a with
  | ⟨0, _⟩ => rfl

/-- The first layer's result of a tile. -/
abbrev firstLayer (t : Fin 6) : Grid 64 :=
  layer (joinedFeatures x0 x1 x2 x3 t) (fun k o => x4 (ix2 k o)) (fun k o => x5 (ix2 k o)) (fun o => x6 (ix1 o))

theorem v68_at (t : Fin 6) (i j : Fin 128) (o : Fin 64) :
    val_main_v68 (F := Ideal) x0 x1 x2 x3 x4 x5 x6 (ix3 (node t i j) 0 o) = firstLayer x0 x1 x2 x3 x4 x5 x6 t i j o := by
  rw [val_main_v68_apply, val_main_v67_apply, val_main_v64_apply, call8_at, v66_at, val_main_v62_apply, val_main_v63_apply]
  show max (((_ : EReal) + _) + _) 0 = _
  unfold firstLayer layer
  refine congrArg (max · 0) (congrArg (· + _) (congrArg₂ (· + ·) ?_ ?_))
  · refine Finset.sum_congr rfl fun k _ => congrArg₂ (· * ·) ?_ (congrArg x4 ?_)
    · rw [← v49_at]
      refine congrArg _ ?_
      funext a
      match a with
      | ⟨0, _⟩ => rfl
      | ⟨1, _⟩ => rfl
      | ⟨2, _⟩ => rfl
    · funext a
      match a with
      | ⟨0, _⟩ => rfl
      | ⟨1, _⟩ => rfl
  · refine Finset.sum_congr rfl fun k _ => congrArg₂ (· * ·) ?_ (congrArg x5 ?_)
    · rw [← v61_at]
      refine congrArg _ ?_
      funext a
      match a with
      | ⟨0, _⟩ => rfl
      | ⟨1, _⟩ => rfl
      | ⟨2, _⟩ => rfl
    · funext a
      match a with
      | ⟨0, _⟩ => rfl
      | ⟨1, _⟩ => rfl

/-! ## The second layer -/

theorem v76_at (p : S98304x1x64.Idx) : val_main_v76 (F := Ideal) p = 0 :=
  (val_main_v76_apply (F := Ideal) p).trans ref_zero_bits
theorem v79_at (p : S98304x1x64.Idx) : val_main_v79 (F := Ideal) p = ((4 : ℝ) : EReal) :=
  (val_main_v79_apply (F := Ideal) p).trans ref_four_bits
theorem call9_at (p : S98304x1x64.Idx) : val_main_call9_v0 (F := Ideal) p = 0 :=
  (val_main_call9_v0_apply (F := Ideal) p).trans ref_zero_bits

theorem v80_at (t : Fin 6) (i j : Fin 128) (k : Fin 64) :
    val_main_v80 (F := Ideal) x0 x1 x2 x3 x4 x5 x6 (ix3 (node t i j) 0 k)
      = Ideal.div (((firstLayer x0 x1 x2 x3 x4 x5 x6 t (nxt i) j k + firstLayer x0 x1 x2 x3 x4 x5 x6 t (prv i) j k)
          + firstLayer x0 x1 x2 x3 x4 x5 x6 t i (nxt j) k) + firstLayer x0 x1 x2 x3 x4 x5 x6 t i (prv j) k) ((4 : ℝ) : EReal) := by
  rw [val_main_v80_apply, v79_at]
  refine congrArg (fun s : EReal => Ideal.div s ((4 : ℝ) : EReal)) ?_
  unfold val_main_v78 val_main_v75
  rw [v74_eq, v77_eq]
  refine (aggregate gather_S98304x1x64_S393216x1_S393216x1x64_12_0_n_n_0_1_1164_wf
    scatter_S98304x1x64_S393216x1_S393216x1x64_12_0_0_1_wf (val_main_v76 (F := Ideal)) (val_main_v68 (F := Ideal) x0 x1 x2 x3 x4 x5 x6) t i j k).trans ?_
  rw [v76_at, zero_add, v68_at, v68_at, v68_at, v68_at]

theorem v85_at (p : Fin 98304) (o : Fin 64) : val_main_v85 (F := Ideal) x9 (ix3 p 0 o) = x9 (ix1 o) := by
  rw [val_main_v85_apply, val_main_v84_apply]
  refine congrArg x9 ?_
  funext a
  match a with
  | ⟨0, _⟩ => rfl

theorem v87_at (t : Fin 6) (i j : Fin 128) (o : Fin 64) :
    val_main_v87 (F := Ideal) x0 x1 x2 x3 x4 x5 x6 x7 x8 x9 (ix3 (node t i j) 0 o)
      = layer (firstLayer x0 x1 x2 x3 x4 x5 x6 t) (fun k o => x7 (ix2 k o)) (fun k o => x8 (ix2 k o)) (fun o => x9 (ix1 o)) i j o := by
  rw [val_main_v87_apply, val_main_v86_apply, val_main_v83_apply, call9_at, v85_at, val_main_v81_apply, val_main_v82_apply]
  show max (((_ : EReal) + _) + _) 0 = _
  rw [layer]
  refine congrArg (max · 0) (congrArg (· + _) (congrArg₂ (· + ·) ?_ ?_))
  · refine Finset.sum_congr rfl fun k _ => congrArg₂ (· * ·) ?_ (congrArg x7 ?_)
    · rw [← v68_at]
      refine congrArg _ ?_
      funext a
      match a with
      | ⟨0, _⟩ => rfl
      | ⟨1, _⟩ => rfl
      | ⟨2, _⟩ => rfl
    · funext a
      match a with
      | ⟨0, _⟩ => rfl
      | ⟨1, _⟩ => rfl
  · refine Finset.sum_congr rfl fun k _ => congrArg₂ (· * ·) ?_ (congrArg x8 ?_)
    · rw [← v80_at]
      refine congrArg _ ?_
      funext a
      match a with
      | ⟨0, _⟩ => rfl
      | ⟨1, _⟩ => rfl
      | ⟨2, _⟩ => rfl
    · funext a
      match a with
      | ⟨0, _⟩ => rfl
      | ⟨1, _⟩ => rfl

/-- **The reference's result array**: at tile `t` and position `(i, j)` it holds the two layers on tile `t`. -/
theorem v89_at (t : Fin 6) (i j : Fin 128) (o : Fin 64) :
    val_main_v89 (F := Ideal) x0 x1 x2 x3 x4 x5 x6 x7 x8 x9 (ix5 0 t i j o)
      = refTile (fun i w c => x0 (ix5 0 t i w c)) (fun i j k => x1 (ix5 0 t i j k)) (fun c k p q => x2 (ix4 c k p q)) (fun k => x3 (ix1 k))
      (fun k o => x4 (ix2 k o)) (fun k o => x5 (ix2 k o)) (fun o => x6 (ix1 o)) (fun k o => x7 (ix2 k o)) (fun k o => x8 (ix2 k o))
      (fun o => x9 (ix1 o)) i j o := by
  rw [val_main_v89_apply, val_main_v88_apply]
  refine Eq.trans (congrArg _ ?_) (v87_at x0 x1 x2 x3 x4 x5 x6 x7 x8 x9 t i j o)
  funext a
  have ht := t.isLt; have hi := i.isLt; have hj := j.isLt; have ho := o.isLt
  match a with
  | ⟨0, _⟩ => exact Fin.ext (by show ((((0 * 6 + t.val) * 128 + i.val) * 128 + j.val) * 64 + o.val) / 64 % 98304 = (t.val * 128 + i.val) * 128 + j.val; omega)
  | ⟨1, _⟩ => rfl
  | ⟨2, _⟩ => exact Fin.ext (by show ((((0 * 6 + t.val) * 128 + i.val) * 128 + j.val) * 64 + o.val) % 64 = o.val; omega)

end Cert.Sage

end
-- ==== Proof.Equal.lean ====
/- The kernel's result array equals the reference's, on finite features and weights. -/
module

public import proofs.«01_k».proof.Proof.KernelValue
public import proofs.«01_k».proof.Proof.RefValue

@[expose] public section

noncomputable section

namespace Cert.Sage

open Idealize.ShloMosaic hiding ix1 ix2 ix4 ix5
open Cert.KernelIdeal Cert.KernelIdeal.Gen
open Idealize.ShloMosaic.ValueIdx (ix1 ix2 ix4 ix5)

/-- **The two result arrays are equal.** -/
theorem ref_eq_kernelOut (x1 : Vec Ideal S1x6x64x64x128 .f32) (x2 : Vec Ideal S1x6x128x128x64 .f32) (W : Vec Ideal S128x64x2x2 .f32)
    (bup : Vec Ideal S64 .f32) (Ws1 Wn1 : Vec Ideal S128x64 .f32) (b1 : Vec Ideal S64 .f32) (Ws2 Wn2 : Vec Ideal S64x64 .f32)
    (b2 : Vec Ideal S64 .f32)
    (hx1 : ∀ i, ∃ r : ℝ, x1 i = (r : EReal)) (hx2 : ∀ i, ∃ r : ℝ, x2 i = (r : EReal)) (hW : ∀ i, ∃ r : ℝ, W i = (r : EReal))
    (hWs : ∀ k o : Fin 64, ∃ r : ℝ, Ws1 (ix2 (hi k) o) = (r : EReal)) (hWn : ∀ i, ∃ r : ℝ, Wn1 i = (r : EReal)) :
    Cert.ReferenceIdeal.Read.val_main_v89 (F := Ideal) x1 x2 W bup Ws1 Wn1 b1 Ws2 Wn2 b2
      = kernelOut x1 x2 W bup Ws1 Wn1 b1 Ws2 Wn2 b2 := by
  have key : ∀ (t : Fin 6) (i j : Fin 128) (o : Fin 64),
      Cert.ReferenceIdeal.Read.val_main_v89 (F := Ideal) x1 x2 W bup Ws1 Wn1 b1 Ws2 Wn2 b2 (ix5 0 t i j o)
        = kernelOut x1 x2 W bup Ws1 Wn1 b1 Ws2 Wn2 b2 (ix5 0 t i j o) := by
    intro t i j o
    refine (v89_at x1 x2 W bup Ws1 Wn1 b1 Ws2 Wn2 b2 t i j o).trans ?_
    rw [kernelOut_apply]
    exact (congrFun (congrFun (congrFun (kerTile_eq_refTile _ _ _ _ _ _ _ _ _ _ (fun _ _ _ => hx1 _) (fun _ _ _ => hx2 _)
      (fun _ _ _ _ => hW _) (fun _ _ => hWs _ _) (fun _ _ => hWn _)) i) j) o).symm
  funext p
  have hp : p = ix5 0 (p 1) (p 2) (p 3) (p 4) := by
    funext a
    match a with
    | ⟨0, _⟩ => exact Subsingleton.elim (α := Fin 1) _ _
    | ⟨1, _⟩ => rfl
    | ⟨2, _⟩ => rfl
    | ⟨3, _⟩ => rfl
    | ⟨4, _⟩ => rfl
  rw [hp]
  exact key _ _ _ _

end Cert.Sage

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.ReferenceIdeal.Run
public import proofs.«01_k».proof.Proof.Gen.ReferenceIdeal.Read
public import proofs.«01_k».proof.Proof.Pre
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: no operation writes an argument, and the program declares no semaphore. -/
theorem frame_reference :
    Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- The kernel and the reference, read at the extended reals, end with equal results on finite inputs. -/
theorem equal_results : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.Sage.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), Cert.Sage.kernel_run m g, ?_⟩
  refine (θ_run _ _ _).mono (fun r h c => ⟨?_, (h c).2⟩) (Cert.ReferenceIdeal.Value.run (F := Ideal) m' g')
  refine (h c).1.trans ((Cert.ReferenceIdeal.Read.val_main_v89_eq (F := Ideal) (StableHlo.launchContents m' c)).trans ?_)
  obtain ⟨a0, a1, a2, a3, a4, a5, a6, a7, a8, a9⟩ := hagree c
  show Cert.ReferenceIdeal.Read.val_main_v89 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
  rw [a0, a1, a2, a3, a4, a5, a6, a7, a8, a9]
  obtain ⟨f0, f1, f2, f4, f5⟩ := Cert.Sage.pre_real _ _ _ _ _ _ _ _ _ _ (hpre c)
  exact Cert.Sage.ref_eq_kernelOut _ _ _ _ _ _ _ _ _ _ f0 f1 f2 f4 f5

theorem claim : Cert.Claim := ⟨Cert.Kernel.Gen.facts, Cert.KernelIdeal.Gen.facts, Cert.ReferenceIdeal.Gen.facts, Cert.Pre_finite_inputs.Gen.facts,
  fun m g _ => Cert.Kernel.Gen.frame m g,
  fun m g _ => Cert.KernelIdeal.Gen.frame m g,
  fun m g _ => Cert.KernelIdeal.Gen.frame m g,
  frame_reference,
  fun m g _ => frame_reference m g trivial,
  trivial,
  equal_results⟩

end Cert.Proof

end
